-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_zero_biases [hPre_finite_zero_biases : Cert.Pre_finite_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_finite_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_zero_biases [hPre_finite_zero_biases : Cert.Pre_finite_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_UnshiftedIdeal (m : (ℓ : Loc Cert.UnshiftedIdeal.nD Cert.UnshiftedIdeal.τ Cert.UnshiftedIdeal.sig) → Buf (Elt Ideal) ℓ) : Prop :=
  True

def Pre_UnshiftedIdeal_zero_biases [hPre_zero_biases : Cert.Pre_zero_biases.Facts] (m : (ℓ : Loc Cert.UnshiftedIdeal.nD Cert.UnshiftedIdeal.τ Cert.UnshiftedIdeal.sig) → Buf (Elt Ideal) ℓ) : Prop :=
  ∀ c : Dev Cert.UnshiftedIdeal.nD,
    (Cert.Pre_zero_biases.fn (F := Ideal) (m ((c.tc : Thread Cert.UnshiftedIdeal.nD Cert.UnshiftedIdeal.τ).loc Cert.UnshiftedIdeal.main_arg0)) (m ((c.tc : Thread Cert.UnshiftedIdeal.nD Cert.UnshiftedIdeal.τ).loc Cert.UnshiftedIdeal.main_arg1)) (m ((c.tc : Thread Cert.UnshiftedIdeal.nD Cert.UnshiftedIdeal.τ).loc Cert.UnshiftedIdeal.main_arg2)) (m ((c.tc : Thread Cert.UnshiftedIdeal.nD Cert.UnshiftedIdeal.τ).loc Cert.UnshiftedIdeal.main_arg3)) (m ((c.tc : Thread Cert.UnshiftedIdeal.nD Cert.UnshiftedIdeal.τ).loc Cert.UnshiftedIdeal.main_arg4)) (m ((c.tc : Thread Cert.UnshiftedIdeal.nD Cert.UnshiftedIdeal.τ).loc Cert.UnshiftedIdeal.main_arg5)) (m ((c.tc : Thread Cert.UnshiftedIdeal.nD Cert.UnshiftedIdeal.τ).loc Cert.UnshiftedIdeal.main_arg6)) (m ((c.tc : Thread Cert.UnshiftedIdeal.nD Cert.UnshiftedIdeal.τ).loc Cert.UnshiftedIdeal.main_arg7)) (m ((c.tc : Thread Cert.UnshiftedIdeal.nD Cert.UnshiftedIdeal.τ).loc Cert.UnshiftedIdeal.main_arg8)) (m ((c.tc : Thread Cert.UnshiftedIdeal.nD Cert.UnshiftedIdeal.τ).loc Cert.UnshiftedIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_zero_biases [hKernelIdeal : Cert.KernelIdeal.Facts] [hPre_finite_zero_biases : Cert.Pre_finite_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_zero_biases [hReferenceIdeal : Cert.ReferenceIdeal.Facts] [hPre_finite_zero_biases : Cert.Pre_finite_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_UnshiftedIdeal [hUnshiftedIdeal : Cert.UnshiftedIdeal.Facts] : Prop :=
  ∀ (m : (ℓ : Loc Cert.UnshiftedIdeal.nD Cert.UnshiftedIdeal.τ Cert.UnshiftedIdeal.sig) → Buf (Elt Ideal) ℓ) (g : Dev Cert.UnshiftedIdeal.nD → PrngReg), Pre_UnshiftedIdeal m →
    θ_run (Cert.UnshiftedIdeal.defs (F := Ideal)) (onTc (τ := Cert.UnshiftedIdeal.τ) (Cert.UnshiftedIdeal.main (F := Ideal))) ⟨m, fun _ => 0, g⟩ (fun r => (∀ c : Dev Cert.UnshiftedIdeal.nD,
      r.2.mem ((c.tc : Thread Cert.UnshiftedIdeal.nD Cert.UnshiftedIdeal.τ).loc Cert.UnshiftedIdeal.main_arg0) = m ((c.tc : Thread Cert.UnshiftedIdeal.nD Cert.UnshiftedIdeal.τ).loc Cert.UnshiftedIdeal.main_arg0)
      ∧ r.2.mem ((c.tc : Thread Cert.UnshiftedIdeal.nD Cert.UnshiftedIdeal.τ).loc Cert.UnshiftedIdeal.main_arg1) = m ((c.tc : Thread Cert.UnshiftedIdeal.nD Cert.UnshiftedIdeal.τ).loc Cert.UnshiftedIdeal.main_arg1)
      ∧ r.2.mem ((c.tc : Thread Cert.UnshiftedIdeal.nD Cert.UnshiftedIdeal.τ).loc Cert.UnshiftedIdeal.main_arg2) = m ((c.tc : Thread Cert.UnshiftedIdeal.nD Cert.UnshiftedIdeal.τ).loc Cert.UnshiftedIdeal.main_arg2)
      ∧ r.2.mem ((c.tc : Thread Cert.UnshiftedIdeal.nD Cert.UnshiftedIdeal.τ).loc Cert.UnshiftedIdeal.main_arg3) = m ((c.tc : Thread Cert.UnshiftedIdeal.nD Cert.UnshiftedIdeal.τ).loc Cert.UnshiftedIdeal.main_arg3)
      ∧ r.2.mem ((c.tc : Thread Cert.UnshiftedIdeal.nD Cert.UnshiftedIdeal.τ).loc Cert.UnshiftedIdeal.main_arg4) = m ((c.tc : Thread Cert.UnshiftedIdeal.nD Cert.UnshiftedIdeal.τ).loc Cert.UnshiftedIdeal.main_arg4)
      ∧ r.2.mem ((c.tc : Thread Cert.UnshiftedIdeal.nD Cert.UnshiftedIdeal.τ).loc Cert.UnshiftedIdeal.main_arg5) = m ((c.tc : Thread Cert.UnshiftedIdeal.nD Cert.UnshiftedIdeal.τ).loc Cert.UnshiftedIdeal.main_arg5)
      ∧ r.2.mem ((c.tc : Thread Cert.UnshiftedIdeal.nD Cert.UnshiftedIdeal.τ).loc Cert.UnshiftedIdeal.main_arg6) = m ((c.tc : Thread Cert.UnshiftedIdeal.nD Cert.UnshiftedIdeal.τ).loc Cert.UnshiftedIdeal.main_arg6)
      ∧ r.2.mem ((c.tc : Thread Cert.UnshiftedIdeal.nD Cert.UnshiftedIdeal.τ).loc Cert.UnshiftedIdeal.main_arg7) = m ((c.tc : Thread Cert.UnshiftedIdeal.nD Cert.UnshiftedIdeal.τ).loc Cert.UnshiftedIdeal.main_arg7)
      ∧ r.2.mem ((c.tc : Thread Cert.UnshiftedIdeal.nD Cert.UnshiftedIdeal.τ).loc Cert.UnshiftedIdeal.main_arg8) = m ((c.tc : Thread Cert.UnshiftedIdeal.nD Cert.UnshiftedIdeal.τ).loc Cert.UnshiftedIdeal.main_arg8)
      ∧ r.2.mem ((c.tc : Thread Cert.UnshiftedIdeal.nD Cert.UnshiftedIdeal.τ).loc Cert.UnshiftedIdeal.main_arg9) = m ((c.tc : Thread Cert.UnshiftedIdeal.nD Cert.UnshiftedIdeal.τ).loc Cert.UnshiftedIdeal.main_arg9))
      ∧ r.2.sem = fun _ => 0)

def quiescent_UnshiftedIdeal_pre_zero_biases [hUnshiftedIdeal : Cert.UnshiftedIdeal.Facts] [hPre_zero_biases : Cert.Pre_zero_biases.Facts] : Prop :=
  ∀ (m : (ℓ : Loc Cert.UnshiftedIdeal.nD Cert.UnshiftedIdeal.τ Cert.UnshiftedIdeal.sig) → Buf (Elt Ideal) ℓ) (g : Dev Cert.UnshiftedIdeal.nD → PrngReg), Pre_UnshiftedIdeal_zero_biases m →
    θ_run (Cert.UnshiftedIdeal.defs (F := Ideal)) (onTc (τ := Cert.UnshiftedIdeal.τ) (Cert.UnshiftedIdeal.main (F := Ideal))) ⟨m, fun _ => 0, g⟩ (fun r => (∀ c : Dev Cert.UnshiftedIdeal.nD,
      r.2.mem ((c.tc : Thread Cert.UnshiftedIdeal.nD Cert.UnshiftedIdeal.τ).loc Cert.UnshiftedIdeal.main_arg0) = m ((c.tc : Thread Cert.UnshiftedIdeal.nD Cert.UnshiftedIdeal.τ).loc Cert.UnshiftedIdeal.main_arg0)
      ∧ r.2.mem ((c.tc : Thread Cert.UnshiftedIdeal.nD Cert.UnshiftedIdeal.τ).loc Cert.UnshiftedIdeal.main_arg1) = m ((c.tc : Thread Cert.UnshiftedIdeal.nD Cert.UnshiftedIdeal.τ).loc Cert.UnshiftedIdeal.main_arg1)
      ∧ r.2.mem ((c.tc : Thread Cert.UnshiftedIdeal.nD Cert.UnshiftedIdeal.τ).loc Cert.UnshiftedIdeal.main_arg2) = m ((c.tc : Thread Cert.UnshiftedIdeal.nD Cert.UnshiftedIdeal.τ).loc Cert.UnshiftedIdeal.main_arg2)
      ∧ r.2.mem ((c.tc : Thread Cert.UnshiftedIdeal.nD Cert.UnshiftedIdeal.τ).loc Cert.UnshiftedIdeal.main_arg3) = m ((c.tc : Thread Cert.UnshiftedIdeal.nD Cert.UnshiftedIdeal.τ).loc Cert.UnshiftedIdeal.main_arg3)
      ∧ r.2.mem ((c.tc : Thread Cert.UnshiftedIdeal.nD Cert.UnshiftedIdeal.τ).loc Cert.UnshiftedIdeal.main_arg4) = m ((c.tc : Thread Cert.UnshiftedIdeal.nD Cert.UnshiftedIdeal.τ).loc Cert.UnshiftedIdeal.main_arg4)
      ∧ r.2.mem ((c.tc : Thread Cert.UnshiftedIdeal.nD Cert.UnshiftedIdeal.τ).loc Cert.UnshiftedIdeal.main_arg5) = m ((c.tc : Thread Cert.UnshiftedIdeal.nD Cert.UnshiftedIdeal.τ).loc Cert.UnshiftedIdeal.main_arg5)
      ∧ r.2.mem ((c.tc : Thread Cert.UnshiftedIdeal.nD Cert.UnshiftedIdeal.τ).loc Cert.UnshiftedIdeal.main_arg6) = m ((c.tc : Thread Cert.UnshiftedIdeal.nD Cert.UnshiftedIdeal.τ).loc Cert.UnshiftedIdeal.main_arg6)
      ∧ r.2.mem ((c.tc : Thread Cert.UnshiftedIdeal.nD Cert.UnshiftedIdeal.τ).loc Cert.UnshiftedIdeal.main_arg7) = m ((c.tc : Thread Cert.UnshiftedIdeal.nD Cert.UnshiftedIdeal.τ).loc Cert.UnshiftedIdeal.main_arg7)
      ∧ r.2.mem ((c.tc : Thread Cert.UnshiftedIdeal.nD Cert.UnshiftedIdeal.τ).loc Cert.UnshiftedIdeal.main_arg8) = m ((c.tc : Thread Cert.UnshiftedIdeal.nD Cert.UnshiftedIdeal.τ).loc Cert.UnshiftedIdeal.main_arg8)
      ∧ r.2.mem ((c.tc : Thread Cert.UnshiftedIdeal.nD Cert.UnshiftedIdeal.τ).loc Cert.UnshiftedIdeal.main_arg9) = m ((c.tc : Thread Cert.UnshiftedIdeal.nD Cert.UnshiftedIdeal.τ).loc Cert.UnshiftedIdeal.main_arg9))
      ∧ r.2.sem = fun _ => 0)

def preserves_Kernel_KernelIdeal : Prop :=
  True

def algebraic_KernelIdeal_ReferenceIdeal_pre_finite_zero_biases [hKernelIdeal : Cert.KernelIdeal.Facts] [hReferenceIdeal : Cert.ReferenceIdeal.Facts] [hPre_finite_zero_biases : Cert.Pre_finite_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_KernelIdeal_UnshiftedIdeal_pre_zero_biases [hKernelIdeal : Cert.KernelIdeal.Facts] [hUnshiftedIdeal : Cert.UnshiftedIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnshiftedIdeal.nD Cert.UnshiftedIdeal.τ Cert.UnshiftedIdeal.sig) → Buf (Elt Ideal) ℓ) (g' : Dev Cert.UnshiftedIdeal.nD → PrngReg), Pre_KernelIdeal_zero_biases m →
    (∀ c : Dev Cert.KernelIdeal.nD,
      m' ((c.tc : Thread Cert.UnshiftedIdeal.nD Cert.UnshiftedIdeal.τ).loc Cert.UnshiftedIdeal.main_arg0) = m ((c.tc : Thread Cert.KernelIdeal.nD Cert.KernelIdeal.τ).loc Cert.KernelIdeal.main_arg0)
      ∧ m' ((c.tc : Thread Cert.UnshiftedIdeal.nD Cert.UnshiftedIdeal.τ).loc Cert.UnshiftedIdeal.main_arg1) = m ((c.tc : Thread Cert.KernelIdeal.nD Cert.KernelIdeal.τ).loc Cert.KernelIdeal.main_arg1)
      ∧ m' ((c.tc : Thread Cert.UnshiftedIdeal.nD Cert.UnshiftedIdeal.τ).loc Cert.UnshiftedIdeal.main_arg2) = m ((c.tc : Thread Cert.KernelIdeal.nD Cert.KernelIdeal.τ).loc Cert.KernelIdeal.main_arg2)
      ∧ m' ((c.tc : Thread Cert.UnshiftedIdeal.nD Cert.UnshiftedIdeal.τ).loc Cert.UnshiftedIdeal.main_arg3) = m ((c.tc : Thread Cert.KernelIdeal.nD Cert.KernelIdeal.τ).loc Cert.KernelIdeal.main_arg3)
      ∧ m' ((c.tc : Thread Cert.UnshiftedIdeal.nD Cert.UnshiftedIdeal.τ).loc Cert.UnshiftedIdeal.main_arg4) = m ((c.tc : Thread Cert.KernelIdeal.nD Cert.KernelIdeal.τ).loc Cert.KernelIdeal.main_arg4)
      ∧ m' ((c.tc : Thread Cert.UnshiftedIdeal.nD Cert.UnshiftedIdeal.τ).loc Cert.UnshiftedIdeal.main_arg5) = m ((c.tc : Thread Cert.KernelIdeal.nD Cert.KernelIdeal.τ).loc Cert.KernelIdeal.main_arg5)
      ∧ m' ((c.tc : Thread Cert.UnshiftedIdeal.nD Cert.UnshiftedIdeal.τ).loc Cert.UnshiftedIdeal.main_arg6) = m ((c.tc : Thread Cert.KernelIdeal.nD Cert.KernelIdeal.τ).loc Cert.KernelIdeal.main_arg6)
      ∧ m' ((c.tc : Thread Cert.UnshiftedIdeal.nD Cert.UnshiftedIdeal.τ).loc Cert.UnshiftedIdeal.main_arg7) = m ((c.tc : Thread Cert.KernelIdeal.nD Cert.KernelIdeal.τ).loc Cert.KernelIdeal.main_arg7)
      ∧ m' ((c.tc : Thread Cert.UnshiftedIdeal.nD Cert.UnshiftedIdeal.τ).loc Cert.UnshiftedIdeal.main_arg8) = m ((c.tc : Thread Cert.KernelIdeal.nD Cert.KernelIdeal.τ).loc Cert.KernelIdeal.main_arg8)
      ∧ m' ((c.tc : Thread Cert.UnshiftedIdeal.nD Cert.UnshiftedIdeal.τ).loc Cert.UnshiftedIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.UnshiftedIdeal.defs (F := Ideal)) (onTc (τ := Cert.UnshiftedIdeal.τ) (Cert.UnshiftedIdeal.main (F := Ideal))) ⟨m', fun _ => 0, g'⟩ (fun r => ∀ c : Dev Cert.UnshiftedIdeal.nD,
          r.2.mem ((c.tc : Thread Cert.UnshiftedIdeal.nD Cert.UnshiftedIdeal.τ).loc Cert.UnshiftedIdeal.main_v38) = v0 c
          ∧ r.2.mem ((c.tc : Thread Cert.UnshiftedIdeal.nD Cert.UnshiftedIdeal.τ).loc Cert.UnshiftedIdeal.main_arg0) = m' ((c.tc : Thread Cert.UnshiftedIdeal.nD Cert.UnshiftedIdeal.τ).loc Cert.UnshiftedIdeal.main_arg0)
          ∧ r.2.mem ((c.tc : Thread Cert.UnshiftedIdeal.nD Cert.UnshiftedIdeal.τ).loc Cert.UnshiftedIdeal.main_arg1) = m' ((c.tc : Thread Cert.UnshiftedIdeal.nD Cert.UnshiftedIdeal.τ).loc Cert.UnshiftedIdeal.main_arg1)
          ∧ r.2.mem ((c.tc : Thread Cert.UnshiftedIdeal.nD Cert.UnshiftedIdeal.τ).loc Cert.UnshiftedIdeal.main_arg2) = m' ((c.tc : Thread Cert.UnshiftedIdeal.nD Cert.UnshiftedIdeal.τ).loc Cert.UnshiftedIdeal.main_arg2)
          ∧ r.2.mem ((c.tc : Thread Cert.UnshiftedIdeal.nD Cert.UnshiftedIdeal.τ).loc Cert.UnshiftedIdeal.main_arg3) = m' ((c.tc : Thread Cert.UnshiftedIdeal.nD Cert.UnshiftedIdeal.τ).loc Cert.UnshiftedIdeal.main_arg3)
          ∧ r.2.mem ((c.tc : Thread Cert.UnshiftedIdeal.nD Cert.UnshiftedIdeal.τ).loc Cert.UnshiftedIdeal.main_arg4) = m' ((c.tc : Thread Cert.UnshiftedIdeal.nD Cert.UnshiftedIdeal.τ).loc Cert.UnshiftedIdeal.main_arg4)
          ∧ r.2.mem ((c.tc : Thread Cert.UnshiftedIdeal.nD Cert.UnshiftedIdeal.τ).loc Cert.UnshiftedIdeal.main_arg5) = m' ((c.tc : Thread Cert.UnshiftedIdeal.nD Cert.UnshiftedIdeal.τ).loc Cert.UnshiftedIdeal.main_arg5)
          ∧ r.2.mem ((c.tc : Thread Cert.UnshiftedIdeal.nD Cert.UnshiftedIdeal.τ).loc Cert.UnshiftedIdeal.main_arg6) = m' ((c.tc : Thread Cert.UnshiftedIdeal.nD Cert.UnshiftedIdeal.τ).loc Cert.UnshiftedIdeal.main_arg6)
          ∧ r.2.mem ((c.tc : Thread Cert.UnshiftedIdeal.nD Cert.UnshiftedIdeal.τ).loc Cert.UnshiftedIdeal.main_arg7) = m' ((c.tc : Thread Cert.UnshiftedIdeal.nD Cert.UnshiftedIdeal.τ).loc Cert.UnshiftedIdeal.main_arg7)
          ∧ r.2.mem ((c.tc : Thread Cert.UnshiftedIdeal.nD Cert.UnshiftedIdeal.τ).loc Cert.UnshiftedIdeal.main_arg8) = m' ((c.tc : Thread Cert.UnshiftedIdeal.nD Cert.UnshiftedIdeal.τ).loc Cert.UnshiftedIdeal.main_arg8)
          ∧ r.2.mem ((c.tc : Thread Cert.UnshiftedIdeal.nD Cert.UnshiftedIdeal.τ).loc Cert.UnshiftedIdeal.main_arg9) = m' ((c.tc : Thread Cert.UnshiftedIdeal.nD Cert.UnshiftedIdeal.τ).loc Cert.UnshiftedIdeal.main_arg9))

def Claim : Prop :=
  ∃ (hKernel : Cert.Kernel.Facts) (hKernelIdeal : Cert.KernelIdeal.Facts) (hReferenceIdeal : Cert.ReferenceIdeal.Facts) (hUnshiftedIdeal : Cert.UnshiftedIdeal.Facts) (hPre_finite_zero_biases : Cert.Pre_finite_zero_biases.Facts) (hPre_zero_biases : Cert.Pre_zero_biases.Facts),
    quiescent_Kernel (hKernel := hKernel)
    ∧ quiescent_KernelIdeal (hKernelIdeal := hKernelIdeal)
    ∧ quiescent_KernelIdeal_pre_finite_zero_biases (hKernelIdeal := hKernelIdeal) (hPre_finite_zero_biases := hPre_finite_zero_biases)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_finite_zero_biases (hReferenceIdeal := hReferenceIdeal) (hPre_finite_zero_biases := hPre_finite_zero_biases)
    ∧ quiescent_UnshiftedIdeal (hUnshiftedIdeal := hUnshiftedIdeal)
    ∧ quiescent_UnshiftedIdeal_pre_zero_biases (hUnshiftedIdeal := hUnshiftedIdeal) (hPre_zero_biases := hPre_zero_biases)
    ∧ preserves_Kernel_KernelIdeal
    ∧ algebraic_KernelIdeal_ReferenceIdeal_pre_finite_zero_biases (hKernelIdeal := hKernelIdeal) (hReferenceIdeal := hReferenceIdeal) (hPre_finite_zero_biases := hPre_finite_zero_biases)
    ∧ algebraic_KernelIdeal_UnshiftedIdeal_pre_zero_biases (hKernelIdeal := hKernelIdeal) (hUnshiftedIdeal := hUnshiftedIdeal) (hPre_zero_biases := hPre_zero_biases)
-- ==== Pre_finite_zero_biases.lean ====
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000 : Shape := ⟨1, ![100000]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1 : S_.BroadcastsInDim S1 (![] : Fin 0 → Fin S1.rank)
  reducesTo_S1_S_d0 : S1.ReducesTo [0] S_
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg7 : FVec F S512x1 .f32) (main_v29 : IVec S_ 1) (main_v32 : IVec S512x512 1) : IVec S_ 1 :=
  let main_c_13 : IVec S_ 1 := constantI S_ 1 1#1
  let main_v33 : IVec S_ 1 := (fun x v => Host.reduce IntOp.andi x v reducesTo_S512x512_S_d0_1 h_S_) main_v32 main_c_13
  let main_v34 : IVec S_ 1 := andi main_v29 main_v33
  let main_v35 : FVec F S512x1 .f32 := Host.absf main_arg7
  let main_cst_14 : FVec F S_ .f32 := constant S_ .f32 0x7F800000#32
  let main_v36 : FVec F S512x1 .f32 := broadcastInDim S512x1 ![] bcast_S_S512x1 main_cst_14
  let main_v37 : IVec S512x1 1 := cmpf .olt main_v35 main_v36
  let main_c_15 : IVec S_ 1 := constantI S_ 1 1#1
  let main_v38 : IVec S_ 1 := (fun x v => Host.reduce IntOp.andi x v reducesTo_S512x1_S_d0_1 h_S_) main_v37 main_c_15
  let main_v39 : IVec S_ 1 := andi main_v34 main_v38
  main_v39

def fn_part1 {F : FTy → Type} [FloatOps F] (main_arg1 : FVec F S512x512 .f32) (main_arg3 : FVec F S512x512 .f32) (main_arg5 : FVec F S512x512 .f32) (main_arg7 : FVec F S512x1 .f32) (main_v14 : IVec S_ 1) (main_v15 : FVec F S100000x512 .f32) : IVec S_ 1 :=
  let main_cst_6 : FVec F S_ .f32 := constant S_ .f32 0x7F800000#32
  let main_v16 : FVec F S100000x512 .f32 := broadcastInDim S100000x512 ![] bcast_S_S100000x512 main_cst_6
  let main_v17 : IVec S100000x512 1 := cmpf .olt main_v15 main_v16
  let main_c_7 : IVec S_ 1 := constantI S_ 1 1#1
  let main_v18 : IVec S_ 1 := (fun x v => Host.reduce IntOp.andi x v reducesTo_S100000x512_S_d0_1 h_S_) main_v17 main_c_7
  let main_v19 : IVec S_ 1 := andi main_v14 main_v18
  let main_v20 : FVec F S512x512 .f32 := Host.absf main_arg1
  let main_cst_8 : FVec F S_ .f32 := constant S_ .f32 0x7F800000#32
  let main_v21 : FVec F S512x512 .f32 := broadcastInDim S512x512 ![] bcast_S_S512x512 main_cst_8
  let main_v22 : IVec S512x512 1 := cmpf .olt main_v20 main_v21
  let main_c_9 : IVec S_ 1 := constantI S_ 1 1#1
  let main_v23 : IVec S_ 1 := (fun x v => Host.reduce IntOp.andi x v reducesTo_S512x512_S_d0_1 h_S_) main_v22 main_c_9
  let main_v24 : IVec S_ 1 := andi main_v19 main_v23
  let main_v25 : FVec F S512x512 .f32 := Host.absf main_arg3
  let main_cst_10 : FVec F S_ .f32 := constant S_ .f32 0x7F800000#32
  let main_v26 : FVec F S512x512 .f32 := broadcastInDim S512x512 ![] bcast_S_S512x512 main_cst_10
  let main_v27 : IVec S512x512 1 := cmpf .olt main_v25 main_v26
  let main_c_11 : IVec S_ 1 := constantI S_ 1 1#1
  let main_v28 : IVec S_ 1 := (fun x v => Host.reduce IntOp.andi x v reducesTo_S512x512_S_d0_1 h_S_) main_v27 main_c_11
  let main_v29 : IVec S_ 1 := andi main_v24 main_v28
  let main_v30 : FVec F S512x512 .f32 := Host.absf main_arg5
  let main_cst_12 : FVec F S_ .f32 := constant S_ .f32 0x7F800000#32
  let main_v31 : FVec F S512x512 .f32 := broadcastInDim S512x512 ![] bcast_S_S512x512 main_cst_12
  let main_v32 : IVec S512x512 1 := cmpf .olt main_v30 main_v31
  fn_part2 (F := F) main_arg7 main_v29 main_v32

def fn {F : FTy → Type} [FloatOps F] (main_arg0 : FVec F S100000x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x1 .f32) (main_arg8 : FVec F S1 .f32) (main_arg9 : IVec S100000 32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg2 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x00000000#32
  let main_v3 : FVec F S512 .f32 := broadcastInDim S512 ![] bcast_S_S512 main_cst_0
  let main_v4 : IVec S512 1 := cmpf .oeq main_arg4 main_v3
  let main_c_1 : IVec S_ 1 := constantI S_ 1 1#1
  let main_v5 : IVec S_ 1 := (fun x v => Host.reduce IntOp.andi x v reducesTo_S512_S_d0 h_S_) main_v4 main_c_1
  let main_v6 : IVec S_ 1 := andi main_v2 main_v5
  let main_cst_2 : FVec F S_ .f32 := constant S_ .f32 0x00000000#32
  let main_v7 : FVec F S512 .f32 := broadcastInDim S512 ![] bcast_S_S512 main_cst_2
  let main_v8 : IVec S512 1 := cmpf .oeq main_arg6 main_v7
  let main_c_3 : IVec S_ 1 := constantI S_ 1 1#1
  let main_v9 : IVec S_ 1 := (fun x v => Host.reduce IntOp.andi x v reducesTo_S512_S_d0 h_S_) main_v8 main_c_3
  let main_v10 : IVec S_ 1 := andi main_v6 main_v9
  let main_cst_4 : FVec F S_ .f32 := constant S_ .f32 0x00000000#32
  let main_v11 : FVec F S1 .f32 := broadcastInDim S1 ![] bcast_S_S1 main_cst_4
  let main_v12 : IVec S1 1 := cmpf .oeq main_arg8 main_v11
  let main_c_5 : IVec S_ 1 := constantI S_ 1 1#1
  let main_v13 : IVec S_ 1 := (fun x v => Host.reduce IntOp.andi x v reducesTo_S1_S_d0 h_S_) main_v12 main_c_5
  let main_v14 : IVec S_ 1 := andi main_v10 main_v13
  let main_v15 : FVec F S100000x512 .f32 := Host.absf main_arg0
  fn_part1 (F := F) main_arg1 main_arg3 main_arg5 main_arg7 main_v14 main_v15
-- ==== Pre_zero_biases.lean ====
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000 : Shape := ⟨1, ![100000]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x1 .f32) (main_arg8 : FVec F S1 .f32) (main_arg9 : IVec S100000 32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg2 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x00000000#32
  let main_v3 : FVec F S512 .f32 := broadcastInDim S512 ![] bcast_S_S512 main_cst_0
  let main_v4 : IVec S512 1 := cmpf .oeq main_arg4 main_v3
  let main_c_1 : IVec S_ 1 := constantI S_ 1 1#1
  let main_v5 : IVec S_ 1 := (fun x v => Host.reduce IntOp.andi x v reducesTo_S512_S_d0 h_S_) main_v4 main_c_1
  let main_v6 : IVec S_ 1 := andi main_v2 main_v5
  let main_cst_2 : FVec F S_ .f32 := constant S_ .f32 0x00000000#32
  let main_v7 : FVec F S512 .f32 := broadcastInDim S512 ![] bcast_S_S512 main_cst_2
  let main_v8 : IVec S512 1 := cmpf .oeq main_arg6 main_v7
  let main_c_3 : IVec S_ 1 := constantI S_ 1 1#1
  let main_v9 : IVec S_ 1 := (fun x v => Host.reduce IntOp.andi x v reducesTo_S512_S_d0 h_S_) main_v8 main_c_3
  let main_v10 : IVec S_ 1 := andi main_v6 main_v9
  let main_cst_4 : FVec F S_ .f32 := constant S_ .f32 0x00000000#32
  let main_v11 : FVec F S1 .f32 := broadcastInDim S1 ![] bcast_S_S1 main_cst_4
  let main_v12 : IVec S1 1 := cmpf .oeq main_arg8 main_v11
  let main_c_5 : IVec S_ 1 := constantI S_ 1 1#1
  let main_v13 : IVec S_ 1 := (fun x v => Host.reduce IntOp.andi x v reducesTo_S1_S_d0 h_S_) main_v12 main_c_5
  let main_v14 : IVec S_ 1 := andi main_v10 main_v13
  main_v14
-- ==== Kernel.lean ====
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000 : Shape := ⟨1, ![100000]⟩
abbrev S100000x1 : Shape := ⟨2, ![100000, 1]⟩
abbrev S1x512 : Shape := ⟨2, ![1, 512]⟩
abbrev S128x512 : Shape := ⟨2, ![128, 512]⟩
abbrev S4000x256 : Shape := ⟨2, ![4000, 256]⟩
abbrev S256x512 : Shape := ⟨2, ![256, 512]⟩
abbrev S4000x1 : Shape := ⟨2, ![4000, 1]⟩
abbrev S1x128 : Shape := ⟨2, ![1, 128]⟩
abbrev S4000x512 : Shape := ⟨2, ![4000, 512]⟩
abbrev S4000 : Shape := ⟨1, ![4000]⟩
abbrev S4000x128 : Shape := ⟨2, ![4000, 128]⟩
abbrev S128 : Shape := ⟨1, ![128]⟩
abbrev S128x1 : Shape := ⟨2, ![128, 1]⟩

abbrev nBuf : Space → Nat
  | .hbm => 16
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S100000, .i32⟩
  | .hbm, ⟨10, _⟩ => ⟨S100000x1, .i32⟩
  | .hbm, ⟨11, _⟩ => ⟨S1x512, .f32⟩
  | .hbm, ⟨12, _⟩ => ⟨S512x512, .bf16⟩
  | .hbm, ⟨13, _⟩ => ⟨S512x512, .bf16⟩
  | .hbm, ⟨14, _⟩ => ⟨S512x512, .bf16⟩
  | .hbm, ⟨15, _⟩ => ⟨S128x512, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S4000x1, .i32⟩
  | .local _ .vmem, ⟨10, _⟩ => ⟨S4000x1, .i32⟩
  | .local _ .vmem, ⟨11, _⟩ => ⟨S128x512, .f32⟩
  | .local _ .vmem, ⟨12, _⟩ => ⟨S128x512, .f32⟩
  | .local _ .vmem, ⟨13, _⟩ => ⟨S1x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v59 : BitVec 1 := Scalar.cmpi .eq arg0 c24_i32
  let v60 : BitVec 32 := Scalar.extui v59
  let c0_i32_32 : BitVec 32 := 0#32
  let v61 : BitVec 1 := Scalar.cmpi .ne v60 c0_i32_32
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000 : Shape := ⟨1, ![100000]⟩
abbrev S1x512 : Shape := ⟨2, ![1, 512]⟩
abbrev S_ : Shape := ⟨0, ![]⟩
abbrev S100000x1 : Shape := ⟨2, ![100000, 1]⟩
abbrev S1x1 : Shape := ⟨2, ![1, 1]⟩
abbrev S128 : Shape := ⟨1, ![128]⟩
abbrev S1x128 : Shape := ⟨2, ![1, 128]⟩
abbrev S100000x128 : Shape := ⟨2, ![100000, 128]⟩
abbrev S128x1 : Shape := ⟨2, ![128, 1]⟩
abbrev S128x512 : Shape := ⟨2, ![128, 512]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S100000, .i32⟩
  | .hbm, ⟨10, _⟩ => ⟨S100000x512, .f32⟩
  | .hbm, ⟨11, _⟩ => ⟨S1x512, .f32⟩
  | .hbm, ⟨12, _⟩ => ⟨S100000x512, .f32⟩
  | .hbm, ⟨13, _⟩ => ⟨S100000x512, .f32⟩
  | .hbm, ⟨14, _⟩ => ⟨S_, .f32⟩
  | .hbm, ⟨15, _⟩ => ⟨S100000x512, .f32⟩
  | .hbm, ⟨16, _⟩ => ⟨S100000x512, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S100000x512, .f32⟩
  | .hbm, ⟨22, _⟩ => ⟨S1x512, .f32⟩
  | .hbm, ⟨23, _⟩ => ⟨S100000x512, .f32⟩
  | .hbm, ⟨24, _⟩ => ⟨S100000x512, .f32⟩
  | .hbm, ⟨25, _⟩ => ⟨S_, .f32⟩
  | .hbm, ⟨26, _⟩ => ⟨S100000x512, .f32⟩
  | .hbm, ⟨27, _⟩ => ⟨S100000x512, .f32⟩
  | .hbm, ⟨28, _⟩ => ⟨S100000x1, .f32⟩
  | .hbm, ⟨29, _⟩ => ⟨S1x1, .f32⟩
  | .hbm, ⟨30, _⟩ => ⟨S100000x1, .f32⟩
  | .hbm, ⟨31, _⟩ => ⟨S100000x1, .f32⟩
  | .hbm, ⟨32, _⟩ => ⟨S100000x1, .i32⟩
  | .hbm, ⟨33, _⟩ => ⟨S128, .i32⟩
  | .hbm, ⟨34, _⟩ => ⟨S1x128, .i32⟩
  | .hbm, ⟨35, _⟩ => ⟨S100000x128, .i32⟩
  | .hbm, ⟨36, _⟩ => ⟨S100000x128, .i32⟩
  | .hbm, ⟨37, _⟩ => ⟨S100000x128, .i1⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S_, .i32⟩
  | .hbm, ⟨47, _⟩ => ⟨S100000, .i32⟩
  | .hbm, ⟨48, _⟩ => ⟨S100000, .i1⟩
  | .hbm, ⟨49, _⟩ => ⟨S_, .i32⟩
  | .hbm, ⟨50, _⟩ => ⟨S100000, .i32⟩
  | .hbm, ⟨51, _⟩ => ⟨S100000, .i32⟩
  | .hbm, ⟨52, _⟩ => ⟨S100000, .i32⟩
  | .hbm, ⟨53, _⟩ => ⟨S100000x1, .i32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S128x1, .f32⟩
  | .hbm, ⟨59, _⟩ => ⟨S100000x1, .i32⟩
  | .hbm, ⟨60, _⟩ => ⟨S128x1, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x1, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x1, .f32⟩
  | .hbm, ⟨79, _⟩ => ⟨S100000x1, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000x512, .f32⟩
  | .hbm, ⟨87, _⟩ => ⟨S100000x512, .f32⟩
  | .hbm, ⟨88, _⟩ => ⟨S_, .f32⟩
  | .hbm, ⟨89, _⟩ => ⟨S128x512, .f32⟩
  | .hbm, ⟨90, _⟩ => ⟨S100000x1, .i32⟩
  | .hbm, ⟨91, _⟩ => ⟨S128x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== UnshiftedIdeal.lean ====
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000 : Shape := ⟨1, ![100000]⟩
abbrev S1x512 : Shape := ⟨2, ![1, 512]⟩
abbrev S_ : Shape := ⟨0, ![]⟩
abbrev S100000x1 : Shape := ⟨2, ![100000, 1]⟩
abbrev S1x1 : Shape := ⟨2, ![1, 1]⟩
abbrev S128x1 : Shape := ⟨2, ![128, 1]⟩
abbrev S128x512 : Shape := ⟨2, ![128, 512]⟩

abbrev nBuf : Space → Nat
  | .hbm => 56
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S100000, .i32⟩
  | .hbm, ⟨10, _⟩ => ⟨S100000x512, .f32⟩
  | .hbm, ⟨11, _⟩ => ⟨S1x512, .f32⟩
  | .hbm, ⟨12, _⟩ => ⟨S100000x512, .f32⟩
  | .hbm, ⟨13, _⟩ => ⟨S100000x512, .f32⟩
  | .hbm, ⟨14, _⟩ => ⟨S_, .f32⟩
  | .hbm, ⟨15, _⟩ => ⟨S100000x512, .f32⟩
  | .hbm, ⟨16, _⟩ => ⟨S100000x512, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S100000x512, .f32⟩
  | .hbm, ⟨22, _⟩ => ⟨S1x512, .f32⟩
  | .hbm, ⟨23, _⟩ => ⟨S100000x512, .f32⟩
  | .hbm, ⟨24, _⟩ => ⟨S100000x512, .f32⟩
  | .hbm, ⟨25, _⟩ => ⟨S_, .f32⟩
  | .hbm, ⟨26, _⟩ => ⟨S100000x512, .f32⟩
  | .hbm, ⟨27, _⟩ => ⟨S100000x512, .f32⟩
  | .hbm, ⟨28, _⟩ => ⟨S100000x1, .f32⟩
  | .hbm, ⟨29, _⟩ => ⟨S1x1, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S_, .f32⟩
  | .hbm, ⟨34, _⟩ => ⟨S128x1, .f32⟩
  | .hbm, ⟨35, _⟩ => ⟨S100000x1, .i32⟩
  | .hbm, ⟨36, _⟩ => ⟨S128x1, .f32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x1, .f32⟩
  | .hbm, ⟨50, _⟩ => ⟨S100000x512, .f32⟩
  | .hbm, ⟨51, _⟩ => ⟨S100000x512, .f32⟩
  | .hbm, ⟨52, _⟩ => ⟨S_, .f32⟩
  | .hbm, ⟨53, _⟩ => ⟨S128x512, .f32⟩
  | .hbm, ⟨54, _⟩ => ⟨S100000x1, .i32⟩
  | .hbm, ⟨55, _⟩ => ⟨S128x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.KernelCases.lean ====
/-
  What the kernel's body leaves behind at one grid point, read off its run: the two carried scratch
  arrays (the weighted sums per group and the weight totals per group) and, at the last point, the
  result block, each as the printed arithmetic of the point's input blocks.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Cases

open Cert.KernelIdeal Cert.KernelIdeal.Gen

variable {F : FTy → Type} [FloatOps F]

/-- Two zero offsets, as a function. -/
theorem hz : (![0, 0] : Fin 2 → Nat) = fun _ => 0 := funext fun a => by fin_cases a <;> rfl

/-- The weighted sums after a point: the block's own sums added to those found. -/
abbrev accStep (x0 x1 : Vec F S4000x256 .f32) (x2 x3 : Vec F S256x512 .bf16) (x4 x5 : Vec F S512x512 .bf16)
    (x6 : Vec F S1x512 .f32) (x7 : Vec F S4000x1 .i32) (acc : Vec F S128x512 .f32) : Vec F S128x512 .f32 :=
  k0_pay2 (k0_pay7 x0 x1 x2 x3 x4) (k0_pay9 x0 x1 x2 x3 x4 x5 x6) x7 acc

/-- The weight totals after a point: the block's own totals added to those found. -/
abbrev denStep (x0 x1 : Vec F S4000x256 .f32) (x2 x3 : Vec F S256x512 .bf16) (x4 x5 : Vec F S512x512 .bf16)
    (x6 : Vec F S1x512 .f32) (x7 : Vec F S4000x1 .i32) (den : Vec F S1x128 .f32) : Vec F S1x128 .f32 :=
  k0_pay3 (k0_pay8 x0 x1 x2 x3 x4 x5 x6) x7 den

section
variable (c : Dev nD) (i : grid0.Coords) (arg1 : Memref sig .tc .vmem S4000x256 .f32) (harg1 : arg1.IsWhole) (arg2 : Memref sig .tc .vmem S4000x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S4000x1 .i32) (harg8 : arg8.IsWhole) (arg9 : Memref sig .tc .vmem S128x512 .f32) (harg9 : arg9.IsWhole) (arg10 : Memref sig .tc .vmem S128x512 .f32) (harg10 : arg10.IsWhole) (arg11 : Memref sig .tc .vmem S1x128 .f32) (harg11 : arg11.IsWhole)
  (x0 x1 : Vec F S4000x256 .f32) (x2 x3 : Vec F S256x512 .bf16) (x4 x5 : Vec F S512x512 .bf16)
  (x6 : Vec F S1x512 .f32) (x7 : Vec F S4000x1 .i32) (xs0 : Vec F S128x512 .f32) (xs1 : Vec F S1x128 .f32)

/-- At a middle point the sums found are stepped once. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1
      = accStep x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread,
    View.ld_unit_zero (S := S4000x256) hz, View.ld_unit_zero (S := S256x512) hz, View.ld_unit_zero (S := S512x512) hz, View.ld_unit_zero (S := S1x512) hz, View.ld_unit_zero (S := S4000x1) hz, View.ld_unit_zero (S := S128x512) hz]

/-- At a middle point the totals found are stepped once. -/
theorem den_B (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1
      = denStep x0 x1 x2 x3 x4 x5 x6 x7 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg11.read_unread,
    View.ld_unit_zero (S := S4000x256) hz, View.ld_unit_zero (S := S256x512) hz, View.ld_unit_zero (S := S512x512) hz, View.ld_unit_zero (S := S1x512) hz, View.ld_unit_zero (S := S4000x1) hz, View.ld_unit_zero (S := S1x128) hz]

/-- At the first point the sums are stepped once from the zero block the point itself stores. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7
      = accStep x0 x1 x2 x3 x4 x5 x6 x7 k0_pay5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S128x512) hz, View.readCov_unit_zero (S := S128x512) _ hz]
  simp only [View.readAt_eq_ld, harg1.read_unread, harg2.read_unread, harg3.read_unread, harg4.read_unread, harg5.read_unread, harg6.read_unread, harg7.read_unread, harg8.read_unread,
    View.ld_unit_zero (S := S4000x256) hz, View.ld_unit_zero (S := S256x512) hz, View.ld_unit_zero (S := S512x512) hz, View.ld_unit_zero (S := S1x512) hz, View.ld_unit_zero (S := S4000x1) hz]

/-- At the first point the totals are stepped once from the zero row the point itself stores. -/
theorem den_A (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7
      = denStep x0 x1 x2 x3 x4 x5 x6 x7 k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread,
    View.ld_unit_zero (S := S4000x256) hz, View.ld_unit_zero (S := S256x512) hz, View.ld_unit_zero (S := S512x512) hz, View.ld_unit_zero (S := S1x512) hz, View.ld_unit_zero (S := S4000x1) hz]

/-- At the last point the result block is the quotient of the two arrays after that point's step. -/
theorem out_C (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1
      = k0_pay4 (denStep x0 x1 x2 x3 x4 x5 x6 x7 xs1) (accStep x0 x1 x2 x3 x4 x5 x6 x7 xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_C
  dsimp only
  sl_unfold_words
  rw [View.canon_unit_zero hz, View.readCov_unit_zero (S := S1x128) _ hz, View.readCov_unit_zero (S := S128x512) _ hz]
  simp only [View.readAt_eq_ld, harg1.read_unread, harg2.read_unread, harg3.read_unread, harg4.read_unread, harg5.read_unread, harg6.read_unread, harg7.read_unread, harg8.read_unread, harg10.read_unread, harg11.read_unread,
    View.ld_unit_zero (S := S4000x256) hz, View.ld_unit_zero (S := S256x512) hz, View.ld_unit_zero (S := S512x512) hz, View.ld_unit_zero (S := S1x512) hz, View.ld_unit_zero (S := S4000x1) hz, View.ld_unit_zero (S := S128x512) hz, View.ld_unit_zero (S := S1x128) hz]

end

end Cert.KernelIdeal.Cases

end
-- ==== Proof.Model.lean ====
/-
  The network of one row over the extended reals, and the pooled result, as plain functions: what both
  the kernel and the references are shown to compute. Nothing here mentions either program.
-/
module

public import Idealize.ShloMosaic.Lib.Pointwise

@[expose] public section

noncomputable section

open Idealize.ShloMosaic

namespace GroupPool

/-- The hidden layer of one row: a linear map, then the positive part. -/
def hid (W1 : Fin 512 → Fin 512 → EReal) (x : Fin 512 → EReal) (k : Fin 512) : EReal :=
  max (∑ j, x j * W1 j k) 0

/-- The features of one row: a linear map of its hidden layer. -/
def feat (W1 W2 : Fin 512 → Fin 512 → EReal) (x : Fin 512 → EReal) (c : Fin 512) : EReal :=
  ∑ k, hid W1 x k * W2 k c

/-- The gate of one row: a hidden layer over its features, then a weighted sum. -/
def gate (W1 W2 Wg1 : Fin 512 → Fin 512 → EReal) (wg : Fin 512 → EReal) (x : Fin 512 → EReal) : EReal :=
  ∑ k, hid Wg1 (feat W1 W2 x) k * wg k

/-- The sum of `f` over the rows whose group word is `g`. -/
def groupSum (b : Fin 100000 → BitVec 32) (g : Fin 128) (f : Fin 100000 → EReal) : EReal :=
  ∑ n, if b n = BitVec.ofNat 32 g.val then f n else 0

/-- The f32 constant `1e-16`, as the extended real it denotes. -/
def eps : EReal := Ideal.ofBits .f32 0x24E69595#32

/-- The pooled result as the kernel forms it: the weighted feature sum of the group over its total weight
    plus the constant. -/
def pooled (b : Fin 100000 → BitVec 32) (e : Fin 100000 → EReal) (h : Fin 100000 → Fin 512 → EReal)
    (g : Fin 128) (c : Fin 512) : EReal :=
  Ideal.div (groupSum b g fun n => e n * h n c) (groupSum b g e + eps)

/-- A sum over all rows, taken block by block: 25 blocks of 4000 rows. -/
theorem sum_blocks (f : Fin 100000 → EReal) :
    ∑ n, f n = ∑ t : Fin 25, ∑ r : Fin 4000, f ⟨4000 * t.val + r.val, by have := t.isLt; have := r.isLt; omega⟩ := by
  rw [← Fintype.sum_prod_type' (f := fun (t : Fin 25) (r : Fin 4000) =>
    f ⟨4000 * t.val + r.val, by have := t.isLt; have := r.isLt; omega⟩)]
  refine (Fintype.sum_equiv (finProdFinEquiv (m := 25) (n := 4000)) _ _ fun p => ?_).symm
  exact congrArg f (Fin.ext (Nat.add_comm _ _))

/-- Column `j` of the left half. -/
abbrev lo (j : Fin 256) : Fin 512 := Fin.castAdd 256 j

/-- Column `j` of the right half. -/
abbrev hi (j : Fin 256) : Fin 512 := Fin.natAdd 256 j

/-- A sum over 512 columns, taken in two halves. -/
theorem sum_halves (f : Fin 512 → EReal) :
    ∑ j, f j = (∑ j, f (lo j)) + ∑ j, f (hi j) :=
  Fin.sum_univ_add (a := 256) (b := 256) f

end GroupPool

end
-- ==== Proof.Payloads.lean ====
/-
  The arithmetic of the kernel's body over the extended reals, read at an index: each stored block in
  terms of the input blocks' elements.
-/
module

public import proofs.«01_k».proof.Proof.KernelCases
public import proofs.«01_k».proof.Proof.Model

@[expose] public section

noncomputable section

open Idealize.ShloMosaic

namespace Cert.KernelIdeal.Payloads

open Cert.KernelIdeal Cert.KernelIdeal.Gen Cert.KernelIdeal.Cases GroupPool

/-- Whether a row's group word is `g`, as the factor one or zero. -/
theorem onehot_apply (w : BitVec 32) (g : ℕ) (x : EReal) :
    (FloatOps.sitofp FTy.f32 (BitVec.setWidth 32 (IntOp.cmpi CmpIPredicate.eq w (BitVec.ofNat 32 g))) : Ideal .f32) * x
      = if w = BitVec.ofNat 32 g then x else 0 := by
  show (((BitVec.setWidth 32 (BitVec.ofBool (w == BitVec.ofNat 32 g))).toInt : ℝ) : EReal) * x = _
  by_cases h : w = BitVec.ofNat 32 g
  · rw [if_pos h, beq_iff_eq.mpr h, show (BitVec.setWidth 32 (BitVec.ofBool true)).toInt = 1 from by decide]
    simp
  · rw [if_neg h, beq_eq_false_iff_ne.mpr h, show (BitVec.setWidth 32 (BitVec.ofBool false)).toInt = 0 from by decide]
    simp

section
variable (x0 x1 : Vec Ideal S4000x256 .f32) (x2 x3 : Vec Ideal S256x512 .bf16) (x4 x5 : Vec Ideal S512x512 .bf16)
  (x6 : Vec Ideal S1x512 .f32) (x7 : Vec Ideal S4000x1 .i32)
  (X : Fin 4000 → Fin 512 → EReal) (W1 W2 Wg1 : Fin 512 → Fin 512 → EReal) (wg : Fin 512 → EReal)
  (h0 : ∀ r (j : Fin 256), x0 (ix2 r j) = X r (lo j))
  (h1 : ∀ r (j : Fin 256), x1 (ix2 r j) = X r (hi j))
  (h2 : ∀ (j : Fin 256) k, x2 (ix2 j k) = W1 (lo j) k)
  (h3 : ∀ (j : Fin 256) k, x3 (ix2 j k) = W1 (hi j) k)
  (h4 : ∀ j k, x4 (ix2 j k) = W2 j k) (h5 : ∀ j k, x5 (ix2 j k) = Wg1 j k) (h6 : ∀ k, x6 (ix2 0 k) = wg k)

include h0 h1 h2 h3 h4 in
/-- The feature block: the features of the block's rows. -/
theorem feat_apply (r : Fin 4000) (c : Fin 512) :
    k0_pay7 (F := Ideal) x0 x1 x2 x3 x4 (ix2 r c) = feat W1 W2 (X r) c := by
  pointwise [k0_pay7]
  unfold feat hid
  simp only [sum_halves, h0, h1, h2, h3, h4]

include h0 h1 h2 h3 h4 h5 h6 in
/-- The weight block: the exponential of the gate of the block's rows. -/
theorem weight_apply (r : Fin 4000) :
    k0_pay8 (F := Ideal) x0 x1 x2 x3 x4 x5 x6 (ix2 r 0) = Ideal.exp (gate W1 W2 Wg1 wg (X r)) := by
  pointwise [k0_pay8]
  simp only [feat_apply x0 x1 x2 x3 x4 X W1 W2 h0 h1 h2 h3 h4, h5, h6]
  rfl

include h0 h1 h2 h3 h4 h5 h6 in
/-- The weighted sums after a block: the block's in-group rows add their weighted features. -/
theorem accStep_apply (acc : Vec Ideal S128x512 .f32) (g : Fin 128) (c : Fin 512) :
    accStep x0 x1 x2 x3 x4 x5 x6 x7 acc (ix2 g c)
      = acc (ix2 g c) + ∑ r : Fin 4000, if x7 (ix2 r 0) = BitVec.ofNat 32 g.val then
          Ideal.exp (gate W1 W2 Wg1 wg (X r)) * feat W1 W2 (X r) c else 0 := by
  pointwise [accStep, k0_pay2, k0_pay1, k0_pay9]
  simp only [weight_apply x0 x1 x2 x3 x4 x5 x6 X W1 W2 Wg1 wg h0 h1 h2 h3 h4 h5 h6,
    feat_apply x0 x1 x2 x3 x4 X W1 W2 h0 h1 h2 h3 h4, onehot_apply]

include h0 h1 h2 h3 h4 h5 h6 in
/-- The weight totals after a block: the block's in-group rows add their weights. -/
theorem denStep_apply (den : Vec Ideal S1x128 .f32) (g : Fin 128) :
    denStep x0 x1 x2 x3 x4 x5 x6 x7 den (ix2 0 g)
      = den (ix2 0 g) + ∑ r : Fin 4000, if x7 (ix2 r 0) = BitVec.ofNat 32 g.val then
          Ideal.exp (gate W1 W2 Wg1 wg (X r)) else 0 := by
  pointwise [denStep, k0_pay3, k0_pay1]
  simp only [weight_apply x0 x1 x2 x3 x4 x5 x6 X W1 W2 Wg1 wg h0 h1 h2 h3 h4 h5 h6, onehot_apply]

end

/-- The result block: each weighted sum over its group's total plus the constant. -/
theorem quot_apply (den : Vec Ideal S1x128 .f32) (acc : Vec Ideal S128x512 .f32) (g : Fin 128) (c : Fin 512) :
    k0_pay4 den acc (ix2 g c) = Ideal.div (acc (ix2 g c)) (den (ix2 0 g) + eps) := by
  pointwise [k0_pay4]
  rfl

/-- The stored zero block is zero everywhere. -/
theorem zeroAcc_apply (g : Fin 128) (c : Fin 512) : k0_pay5 (F := Ideal) (ix2 g c) = 0 := by
  pointwise [k0_pay5]

/-- The stored zero row is zero everywhere. -/
theorem zeroDen_apply (g : Fin 128) : k0_pay6 (F := Ideal) (ix2 0 g) = 0 := by
  pointwise [k0_pay6]

end Cert.KernelIdeal.Payloads

end
-- ==== Proof.Blocks.lean ====
/-
  The kernel's input blocks at a grid point, read at an index, as elements of its arguments.
-/
module

public import proofs.«01_k».proof.Proof.Payloads

@[expose] public section

noncomputable section

open Idealize.ShloMosaic Idealize.ShloMosaic.TcCoe Idealize.SL.Sem

namespace Cert.KernelIdeal.Blocks

open Cert.KernelIdeal Cert.KernelIdeal.Gen GroupPool

variable (m : (ℓ : Loc nD τ sig) → Buf (Elt Ideal) ℓ)

/-- The group words, laid out as a column. -/
theorem V_batch (c : Dev nD) : V m c main_v0 = shapeCast S100000x1 (m ((c : Thread nD τ).loc main_arg9)) shapeCasts_S100000_S100000x1 := by
  show StableHlo.after hostOps0 _ (Proc.devRef .tc main_v0) = _
  after_results
  rfl

/-- The last gate weights, laid out as a row. -/
theorem V_wg (c : Dev nD) : V m c main_v1 = shapeCast S1x512 (m ((c : Thread nD τ).loc main_arg7)) shapeCasts_S512x1_S1x512 := by
  show StableHlo.after hostOps0 _ (Proc.devRef .tc main_v1) = _
  after_results
  rfl

/-- The first layer's weights in the kernel's format: over the extended reals, the weights. -/
theorem V_W1 (c : Dev nD) : V m c main_v2 = m ((c : Thread nD τ).loc main_arg1) := by
  show StableHlo.after hostOps0 _ (Proc.devRef .tc main_v2) = _
  after_results
  rfl

/-- The second layer's weights in the kernel's format: over the extended reals, the weights. -/
theorem V_W2 (c : Dev nD) : V m c main_v3 = m ((c : Thread nD τ).loc main_arg3) := by
  show StableHlo.after hostOps0 _ (Proc.devRef .tc main_v3) = _
  after_results
  rfl

/-- The gate layer's weights in the kernel's format: over the extended reals, the weights. -/
theorem V_Wg1 (c : Dev nD) : V m c main_v4 = m ((c : Thread nD τ).loc main_arg5) := by
  show StableHlo.after hostOps0 _ (Proc.devRef .tc main_v4) = _
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 1 := by decide +kernel
theorem idx2 : ∀ t : Fin grid0.N, win0_2.index t 0 = 0 ∧ win0_2.index t 1 = 0 := by decide +kernel
theorem idx3 : ∀ t : Fin grid0.N, win0_3.index t 0 = 1 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel

/-- Row `r` of block `t`, among all rows. -/
abbrev row (t : Fin cfg0.N) (r : Fin 4000) : Fin 100000 :=
  ⟨4000 * t.val + r.val, by have := lt_of_lt_of_eq t.isLt N_0; omega⟩

/-- The left half of the rows of `x`. -/
theorem blk0 (c : Dev nD) (t : Fin cfg0.N) (r : Fin 4000) (j : Fin 256) :
    (iblk m c 0 t : Vec Ideal S4000x256 .f32) (ix2 r j) = m ((c : Thread nD τ).loc main_arg0) (ix2 (row t r) (lo j)) := by
  unfold iblk
  rw [View.read_apply]
  show V m c main_arg0 _ = _
  rw [V_main_arg0]
  congr 1
  funext a
  apply Fin.ext
  match a with
  | ⟨0, _⟩ => show win0_0.index t 0 * 4000 + 1 * r.val = 4000 * t.val + r.val; rw [(idx0 t).1]; omega
  | ⟨1, _⟩ => show win0_0.index t 1 * 256 + 1 * j.val = j.val; rw [(idx0 t).2]; omega

/-- The right half of the rows of `x`. -/
theorem blk1 (c : Dev nD) (t : Fin cfg0.N) (r : Fin 4000) (j : Fin 256) :
    (iblk m c 1 t : Vec Ideal S4000x256 .f32) (ix2 r j) = m ((c : Thread nD τ).loc main_arg0) (ix2 (row t r) (hi j)) := by
  unfold iblk
  rw [View.read_apply]
  show V m c main_arg0 _ = _
  rw [V_main_arg0]
  congr 1
  funext a
  apply Fin.ext
  match a with
  | ⟨0, _⟩ => show win0_1.index t 0 * 4000 + 1 * r.val = 4000 * t.val + r.val; rw [(idx1 t).1]; omega
  | ⟨1, _⟩ => show win0_1.index t 1 * 256 + 1 * j.val = 256 + j.val; rw [(idx1 t).2]; omega

/-- The upper half of the first layer's weights. -/
theorem blk2 (c : Dev nD) (t : Fin cfg0.N) (j : Fin 256) (k : Fin 512) :
    (iblk m c 2 t : Vec Ideal S256x512 .bf16) (ix2 j k) = m ((c : Thread nD τ).loc main_arg1) (ix2 (lo j) k) := by
  unfold iblk
  rw [View.read_apply]
  show V m c main_v2 _ = _
  rw [V_W1]
  congr 1
  funext a
  apply Fin.ext
  match a with
  | ⟨0, _⟩ => show win0_2.index t 0 * 256 + 1 * j.val = j.val; rw [(idx2 t).1]; omega
  | ⟨1, _⟩ => show win0_2.index t 1 * 512 + 1 * k.val = k.val; rw [(idx2 t).2]; omega

/-- The lower half of the first layer's weights. -/
theorem blk3 (c : Dev nD) (t : Fin cfg0.N) (j : Fin 256) (k : Fin 512) :
    (iblk m c 3 t : Vec Ideal S256x512 .bf16) (ix2 j k) = m ((c : Thread nD τ).loc main_arg1) (ix2 (hi j) k) := by
  unfold iblk
  rw [View.read_apply]
  show V m c main_v2 _ = _
  rw [V_W1]
  congr 1
  funext a
  apply Fin.ext
  match a with
  | ⟨0, _⟩ => show win0_3.index t 0 * 256 + 1 * j.val = 256 + j.val; rw [(idx3 t).1]; omega
  | ⟨1, _⟩ => show win0_3.index t 1 * 512 + 1 * k.val = k.val; rw [(idx3 t).2]; omega

/-- The second layer's weights, whole. -/
theorem blk4 (c : Dev nD) (t : Fin cfg0.N) (j k : Fin 512) :
    (iblk m c 4 t : Vec Ideal S512x512 .bf16) (ix2 j k) = m ((c : Thread nD τ).loc main_arg3) (ix2 j k) := by
  unfold iblk
  rw [View.read_apply]
  show V m c main_v3 _ = _
  rw [V_W2]
  congr 1
  funext a
  apply Fin.ext
  match a with
  | ⟨0, _⟩ => show win0_4.index t 0 * 512 + 1 * j.val = j.val; rw [(idx4 t).1]; omega
  | ⟨1, _⟩ => show win0_4.index t 1 * 512 + 1 * k.val = k.val; rw [(idx4 t).2]; omega

/-- The gate layer's weights, whole. -/
theorem blk5 (c : Dev nD) (t : Fin cfg0.N) (j k : Fin 512) :
    (iblk m c 5 t : Vec Ideal S512x512 .bf16) (ix2 j k) = m ((c : Thread nD τ).loc main_arg5) (ix2 j k) := by
  unfold iblk
  rw [View.read_apply]
  show V m c main_v4 _ = _
  rw [V_Wg1]
  congr 1
  funext a
  apply Fin.ext
  match a with
  | ⟨0, _⟩ => show win0_5.index t 0 * 512 + 1 * j.val = j.val; rw [(idx5 t).1]; omega
  | ⟨1, _⟩ => show win0_5.index t 1 * 512 + 1 * k.val = k.val; rw [(idx5 t).2]; omega

/-- The last gate weights, whole: the one row read is the argument's one column. -/
theorem blk6 (c : Dev nD) (t : Fin cfg0.N) (k : Fin 512) :
    (iblk m c 6 t : Vec Ideal S1x512 .f32) (ix2 0 k) = m ((c : Thread nD τ).loc main_arg7) (ix2 k 0) := by
  have e : (iblk m c 6 t : Vec Ideal S1x512 .f32) (ix2 0 k) = (V m c main_v1 : Vec Ideal S1x512 .f32) (ix2 0 k) := by
    unfold iblk
    rw [View.read_apply]
    show V m c main_v1 _ = _
    congr 1
    funext a
    apply Fin.ext
    match a with
    | ⟨0, _⟩ => show win0_6.index t 0 * 1 + 1 * 0 = 0; rw [(idx6 t).1]
    | ⟨1, _⟩ => show win0_6.index t 1 * 512 + 1 * k.val = k.val; rw [(idx6 t).2]; omega
  rw [e, V_wg]
  pointwise

/-- The group words of the block's rows. -/
theorem blk7 (c : Dev nD) (t : Fin cfg0.N) (r : Fin 4000) :
    (iblk m c 7 t : Vec Ideal S4000x1 .i32) (ix2 r 0) = m ((c : Thread nD τ).loc main_arg9) (ix1 (row t r)) := by
  have e : (iblk m c 7 t : Vec Ideal S4000x1 .i32) (ix2 r 0) = (V m c main_v0 : Vec Ideal S100000x1 .i32) (ix2 (row t r) 0) := by
    unfold iblk
    rw [View.read_apply]
    show V m c main_v0 _ = _
    congr 1
    funext a
    apply Fin.ext
    match a with
    | ⟨0, _⟩ => show win0_7.index t 0 * 4000 + 1 * r.val = 4000 * t.val + r.val; rw [(idx7 t).1]; omega
    | ⟨1, _⟩ => show win0_7.index t 1 * 1 + 1 * 0 = 0; rw [(idx7 t).2]
  rw [e, V_batch]
  pointwise

end Cert.KernelIdeal.Blocks

end
-- ==== Proof.KernelValue.lean ====
/-
  The kernel's result array, element by element: the pooled result of the network of its arguments.
-/
module

public import proofs.«01_k».proof.Proof.Blocks

@[expose] public section

noncomputable section

open Idealize.ShloMosaic Idealize.ShloMosaic.TcCoe Idealize.SL.Sem

namespace Cert.KernelIdeal.Pool

open Cert.KernelIdeal Cert.KernelIdeal.Gen Cert.KernelIdeal.Value Cert.KernelIdeal.Cases
open Cert.KernelIdeal.Payloads Cert.KernelIdeal.Blocks GroupPool

variable (m : (ℓ : Loc nD τ sig) → Buf (Elt Ideal) ℓ) (c : Dev nD)

/-- The rows of `x`. -/
abbrev X (n : Fin 100000) (j : Fin 512) : EReal := m ((c : Thread nD τ).loc main_arg0) (ix2 n j)
/-- The first layer's weights. -/
abbrev W1 (j k : Fin 512) : EReal := m ((c : Thread nD τ).loc main_arg1) (ix2 j k)
/-- The second layer's weights. -/
abbrev W2 (j k : Fin 512) : EReal := m ((c : Thread nD τ).loc main_arg3) (ix2 j k)
/-- The gate layer's weights. -/
abbrev Wg1 (j k : Fin 512) : EReal := m ((c : Thread nD τ).loc main_arg5) (ix2 j k)
/-- The last gate weights. -/
abbrev wg (k : Fin 512) : EReal := m ((c : Thread nD τ).loc main_arg7) (ix2 k 0)
/-- The group words. -/
abbrev word (n : Fin 100000) : BitVec 32 := m ((c : Thread nD τ).loc main_arg9) (ix1 n)

/-- The weight of a row. -/
def weight (n : Fin 100000) : EReal := Ideal.exp (gate (W1 m c) (W2 m c) (Wg1 m c) (wg m c) (X m c n))
/-- The features of a row. -/
def feats (n : Fin 100000) (k : Fin 512) : EReal := feat (W1 m c) (W2 m c) (X m c n) k

/-- What point `s` adds to a group's sum of `f`: the sum of `f` over the in-group rows of block `s`. -/
def part (f : Fin 100000 → EReal) (g : Fin 128) (s : ℕ) : EReal :=
  if h : s < 25 then ∑ r : Fin 4000, if word m c ⟨4000 * s + r.val, by omega⟩ = BitVec.ofNat 32 g.val then
    f ⟨4000 * s + r.val, by omega⟩ else 0 else 0

/-- The weighted sums stepped at a point. -/
theorem acc_step (t : Fin cfg0.N) (acc : Vec Ideal S128x512 .f32) (g : Fin 128) (k : Fin 512) :
    accStep (iblk m c 0 t) (iblk m c 1 t) (iblk m c 2 t) (iblk m c 3 t) (iblk m c 4 t) (iblk m c 5 t) (iblk m c 6 t) (iblk m c 7 t) acc (ix2 g k)
      = acc (ix2 g k) + part m c (fun n => weight m c n * feats m c n k) g t.val := by
  rw [accStep_apply _ _ _ _ _ _ _ _ (fun r => X m c (row t r)) (W1 m c) (W2 m c) (Wg1 m c) (wg m c)
    (blk0 m c t) (blk1 m c t) (blk2 m c t) (blk3 m c t) (blk4 m c t) (blk5 m c t) (blk6 m c t),
    part, dif_pos (lt_of_lt_of_eq t.isLt N_0)]
  simp only [blk7]
  rfl

/-- The weight totals stepped at a point. -/
theorem den_step (t : Fin cfg0.N) (den : Vec Ideal S1x128 .f32) (g : Fin 128) :
    denStep (iblk m c 0 t) (iblk m c 1 t) (iblk m c 2 t) (iblk m c 3 t) (iblk m c 4 t) (iblk m c 5 t) (iblk m c 6 t) (iblk m c 7 t) den (ix2 0 g)
      = den (ix2 0 g) + part m c (weight m c) g t.val := by
  rw [denStep_apply _ _ _ _ _ _ _ _ (fun r => X m c (row t r)) (W1 m c) (W2 m c) (Wg1 m c) (wg m c)
    (blk0 m c t) (blk1 m c t) (blk2 m c t) (blk3 m c t) (blk4 m c t) (blk5 m c t) (blk6 m c t),
    part, dif_pos (lt_of_lt_of_eq t.isLt N_0)]
  simp only [blk7]
  rfl

/-- What the carried triple holds: two working arrays and, in front, the result block. -/
abbrev Carry : Type := Vec Ideal S128x512 .f32 × Vec Ideal S128x512 .f32 × Vec Ideal S1x128 .f32

/-- The first point: both arrays hold that point's part. -/
theorem first (n : ℕ) (h : n < cfg0.N) (hn : n = 0) (p : Carry) (g : Fin 128) :
    (∀ k, (stAt0 m c n h p).2.1 (ix2 g k) = part m c (fun n => weight m c n * feats m c n k) g n)
    ∧ (stAt0 m c n h p).2.2 (ix2 0 g) = part m c (weight m c) g n := by
  have e : stAt0 m c n h p = _ := stAt0_A m c ⟨n, h⟩ p (by dsimp only; omega) (by dsimp only; omega)
  rw [e]
  dsimp only
  refine ⟨fun k => ?_, ?_⟩
  · rw [acc_A, acc_step, zeroAcc_apply, zero_add]
  · rw [den_A, den_step, zeroDen_apply, zero_add]

/-- A middle point: both arrays gain that point's part. -/
theorem middle (n : ℕ) (h : n < cfg0.N) (h0 : n ≠ 0) (h1 : n < 24) (p : Carry) (g : Fin 128) :
    (∀ k, (stAt0 m c n h p).2.1 (ix2 g k) = p.2.1 (ix2 g k) + part m c (fun n => weight m c n * feats m c n k) g n)
    ∧ (stAt0 m c n h p).2.2 (ix2 0 g) = p.2.2 (ix2 0 g) + part m c (weight m c) g n := by
  have e : stAt0 m c n h p = _ := stAt0_B m c ⟨n, h⟩ p (by dsimp only; omega) (by dsimp only; omega)
  rw [e]
  dsimp only
  refine ⟨fun k => ?_, ?_⟩
  · rw [acc_B, acc_step]
  · rw [den_B, den_step]

/-- The last point: the result is the quotient of the arrays with that point's part. -/
theorem last (n : ℕ) (h : n < cfg0.N) (hn : n = 24) (p : Carry) (g : Fin 128) (k : Fin 512) :
    (stAt0 m c n h p).1 (ix2 g k)
      = Ideal.div (p.2.1 (ix2 g k) + part m c (fun n => weight m c n * feats m c n k) g n)
          (p.2.2 (ix2 0 g) + part m c (weight m c) g n + eps) := by
  have e : stAt0 m c n h p = _ := stAt0_C m c ⟨n, h⟩ p (by dsimp only; omega) (by dsimp only; omega)
  rw [e]
  dsimp only
  rw [out_C, quot_apply, acc_step, den_step]

/-- After point `j`, short of the last, the carried arrays hold the sums and the totals over the blocks up to `j`. -/
theorem carried (j : ℕ) (hj : j < 24) (h : 0 + j < cfg0.N) (g : Fin 128) :
    (∀ k, (Pipeline.accAt (fun n h => stAt0 m c n h junk0) (stAt0 m c) 0 j h).2.1 (ix2 g k)
      = ∑ s ∈ Finset.range (j + 1), part m c (fun n => weight m c n * feats m c n k) g s)
    ∧ (Pipeline.accAt (fun n h => stAt0 m c n h junk0) (stAt0 m c) 0 j h).2.2 (ix2 0 g)
      = ∑ s ∈ Finset.range (j + 1), part m c (weight m c) g s := by
  induction j with
  | zero =>
    rw [Pipeline.accAt_zero]
    simpa only [Nat.zero_add, Finset.sum_range_one] using first m c 0 h rfl junk0 g
  | succ j ih =>
    obtain ⟨ha, hd⟩ := ih (by omega) (by omega)
    obtain ⟨sa, sd⟩ := middle m c (0 + (j + 1)) h (by omega) (by omega)
      (Pipeline.accAt (fun n h => stAt0 m c n h junk0) (stAt0 m c) 0 j (by omega)) g
    rw [Pipeline.accAt_succ]
    refine ⟨fun k => ?_, ?_⟩
    · rw [sa, ha, Finset.sum_range_succ _ (j + 1), Nat.zero_add]
    · rw [sd, hd, Finset.sum_range_succ _ (j + 1), Nat.zero_add]

/-- The parts of all the blocks make the group's sum over all the rows. -/
theorem sum_parts (f : Fin 100000 → EReal) (g : Fin 128) :
    ∑ s ∈ Finset.range 25, part m c f g s = groupSum (word m c) g f := by
  rw [groupSum, sum_blocks, Finset.sum_range]
  refine Finset.sum_congr rfl fun s _ => ?_
  rw [part, dif_pos s.isLt]

/-- The fold's result after the point that follows point `j = 23`: the pooled result. -/
theorem fold_last (j : ℕ) (hj : j + 1 = 24) (h : 0 + (j + 1) < cfg0.N) (g : Fin 128) (k : Fin 512) :
    (Pipeline.accAt (fun n h => stAt0 m c n h junk0) (stAt0 m c) 0 (j + 1) h).1 (ix2 g k)
      = pooled (word m c) (weight m c) (feats m c) g k := by
  obtain ⟨ha, hd⟩ := carried m c j (by omega) (by omega) g
  rw [Pipeline.accAt_succ, last m c _ h (by omega), ha, hd, Nat.zero_add, ← Finset.sum_range_succ, ← Finset.sum_range_succ,
    hj, sum_parts, sum_parts]
  rfl

/-- THE KERNEL'S RESULT at group `g` and column `k`: the pooled result. -/
theorem result_apply (g : Fin 128) (k : Fin 512) :
    (G8 m c : Vec Ideal S128x512 .f32) (ix2 g k) = pooled (word m c) (weight m c) (feats m c) g k := by
  rw [G8_last]
  exact fold_last m c 23 rfl _ g k

end Cert.KernelIdeal.Pool

end
-- ==== Proof.Segment.lean ====
/-
  Sums and reads by group word: an accumulating scatter of rows, and a gather of rows, at an index, for
  words that name a group or no group.
-/
module

public import proofs.«01_k».proof.Proof.KernelValue
public import Idealize.ShloMosaic.Lib.Routing.Ops
public import Idealize.ShloMosaic.Lib.Routing.OpsPair

@[expose] public section

noncomputable section

open Idealize.ShloMosaic

namespace GroupPool

open Idealize.ShloMosaic.Routing

/-- A word read signed is the group number `r` exactly when it is the word of `r`. -/
theorem toInt_eq_iff (w : BitVec 32) (r : ℕ) (hr : r < 2 ^ 31) : w.toInt = (r : ℤ) ↔ w = BitVec.ofNat 32 r := by
  rw [← BitVec.toInt_inj, StableHlo.Predicate.toInt_ofNat_small _ hr]

/-- Row `k` of the updates, column `y`, lands at `(r, c)` exactly when its word, read signed, is `r`, and `y` is `c`. -/
theorem row_lands {R C n : Nat} (d : ScatterDims ⟨2, ![R, C]⟩ ⟨2, ![n, 1]⟩ ⟨2, ![n, C]⟩) (huw : d.updateWindowDims = [1])
    (hiw : d.insertedWindowDims = [0]) (hsd : d.scatterDimsToOperandDims = [0]) (hivd : d.indexVectorDim = 1)
    (idx : IVec ⟨2, ![n, 1]⟩ 32) (k : Fin n) (y : Fin C) (r : Fin R) (c : Fin C) :
    d.resultIdx? (ix2 k y) idx = some (ix2 r c) ↔ (idx (ix2 k (0 : Fin 1))).toInt = r.val ∧ y = c := by
  obtain ⟨uw, iw, sd, iv, wf⟩ := d
  dsimp only at huw hiw hsd hivd
  subst huw hiw hsd hivd
  rw [resultIdx?_eq_some]
  set d : ScatterDims ⟨2, ![R, C]⟩ ⟨2, ![n, 1]⟩ ⟨2, ![n, C]⟩ := ⟨[1], [0], [0], 1, wf⟩
  have hs : d.start (ix2 k y) idx 0 = (idx (ix2 k (0 : Fin 1))).toInt := by
    show (idx (d.siIdx (ix2 k y) ⟨0, Nat.one_pos⟩)).toInt = _
    congr 2
    funext a
    match a with
    | ⟨0, _⟩ => rfl
    | ⟨1, _⟩ => rfl
  have h0 : d.start (ix2 k y) idx 0 + (d.window (ix2 k y) 0 : ℤ) = (idx (ix2 k (0 : Fin 1))).toInt := by
    rw [hs, show d.window (ix2 k y) 0 = 0 from rfl]
    exact add_zero _
  have h1 : d.start (ix2 k y) idx 1 + (d.window (ix2 k y) 1 : ℤ) = (y.val : ℤ) := by
    rw [show d.start (ix2 k y) idx 1 = 0 from rfl, show d.window (ix2 k y) 1 = y.val from rfl]
    exact zero_add _
  constructor
  · intro h
    exact ⟨h0.symm.trans (h 0), Fin.ext (Int.ofNat.inj (h1.symm.trans (h 1)))⟩
  · rintro ⟨hw, rfl⟩ a
    match a with
    | ⟨0, _⟩ => exact h0.trans hw
    | ⟨1, _⟩ => exact h1

/-- An accumulating scatter of rows at `(r, c)`: the operand's element and the sum of column `c` over the rows whose
    word is `r`; a row whose word is no row number of the operand is dropped. -/
theorem scatterAdd_rows {R C n : Nat} (hR : R ≤ 2 ^ 31) (d : ScatterDims ⟨2, ![R, C]⟩ ⟨2, ![n, 1]⟩ ⟨2, ![n, C]⟩) (huw : d.updateWindowDims = [1])
    (hiw : d.insertedWindowDims = [0]) (hsd : d.scatterDimsToOperandDims = [0]) (hivd : d.indexVectorDim = 1)
    (x : FVec Ideal ⟨2, ![R, C]⟩ .f32) (idx : IVec ⟨2, ![n, 1]⟩ 32) (upd : FVec Ideal ⟨2, ![n, C]⟩ .f32) (r : Fin R) (c : Fin C) :
    Host.scatterAdd d x idx upd (ix2 r c)
      = x (ix2 r c) + ∑ k : Fin n, if idx (ix2 k (0 : Fin 1)) = BitVec.ofNat 32 r.val then upd (ix2 k c) else (0 : EReal) := by
  show Ideal.hostScatterAdd d x idx upd (ix2 r c) = _
  unfold Ideal.hostScatterAdd
  congr 1
  rw [Finset.sum_filter, sum_idx2]
  refine Finset.sum_congr rfl fun k _ => ?_
  simp only [row_lands d huw hiw hsd hivd, toInt_eq_iff _ _ (lt_of_lt_of_le r.isLt hR)]
  by_cases h : idx (ix2 k (0 : Fin 1)) = BitVec.ofNat 32 r.val
  · simp only [h, true_and, if_true, Finset.sum_ite_eq', Finset.mem_univ]
  · simp only [h, false_and, if_false, Finset.sum_const_zero]

end GroupPool

end
-- ==== Proof.Host.lean ====
/-
  The operations the two references share, in the order they are printed, and what they are at an index
  over the extended reals.
-/
module

public import proofs.«01_k».proof.Proof.Segment
public import proofs.«01_k».proof.Proof.Gen.ReferenceIdeal.Run
public import proofs.«01_k».proof.Proof.Gen.UnshiftedIdeal.Run

@[expose] public section

noncomputable section

open Idealize.ShloMosaic

namespace Cert.ReferenceIdeal.Pool

open Cert.ReferenceIdeal Cert.ReferenceIdeal.Gen GroupPool

section
variable (a0 : FVec Ideal S100000x512 .f32) (a1 : FVec Ideal S512x512 .f32) (a2 : FVec Ideal S512 .f32)
  (a3 : FVec Ideal S512x512 .f32) (a4 : FVec Ideal S512 .f32) (a5 : FVec Ideal S512x512 .f32) (a6 : FVec Ideal S512 .f32)
  (a7 : FVec Ideal S512x1 .f32) (a8 : FVec Ideal S1 .f32) (a9 : IVec S100000 32)

/-- A layer with its bias and the positive part. -/
abbrev layer (x : FVec Ideal S100000x512 .f32) (w : FVec Ideal S512x512 .f32) (b : FVec Ideal S512 .f32) : FVec Ideal S100000x512 .f32 :=
  maximumf (addf (Host.dotGeneral dot_S100000x512_S512x512_S100000x512_1_0_0_1_n_n none x w) (broadcastInDim S100000x512 ![0, 1] bcast_S1x512_S100000x512_0_1 (broadcastInDim S1x512 ![1] bcast_S512_S1x512_1 b))) (broadcastInDim S100000x512 ![] bcast_S_S100000x512 (constant S_ .f32 0x00000000#32))

/-- The features of all rows. -/
abbrev featsH : FVec Ideal S100000x512 .f32 :=
  addf (Host.dotGeneral dot_S100000x512_S512x512_S100000x512_1_0_0_1_n_n none (layer a0 a1 a2) a3) (broadcastInDim S100000x512 ![0, 1] bcast_S1x512_S100000x512_0_1 (broadcastInDim S1x512 ![1] bcast_S512_S1x512_1 a4))

/-- The gates of all rows, from their features. -/
abbrev gateH (H : FVec Ideal S100000x512 .f32) : FVec Ideal S100000x1 .f32 :=
  addf (Host.dotGeneral dot_S100000x512_S512x1_S100000x1_1_0_0_1_n_n none (layer H a5 a6) a7) (broadcastInDim S100000x1 ![0, 1] bcast_S1x1_S100000x1_0_1 (broadcastInDim S1x1 ![1] bcast_S1_S1x1_1 a8))

/-- The group words as a column. -/
abbrev col : IVec S100000x1 32 := broadcastInDim S100000x1 ![0] bcast_S100000_S100000x1_0 a9

/-- The group words as an index column: a negative word has 128 added. -/
abbrev wrap : IVec S100000x1 32 :=
  broadcastInDim S100000x1 ![0] bcast_S100000_S100000x1_0 (select (cmpi .slt a9 (broadcastInDim S100000 ![] bcast_S_S100000 (constantI S_ 32 0#32))) (addi a9 (broadcastInDim S100000 ![] bcast_S_S100000 (constantI S_ 32 128#32))) a9)

/-- The sums of a column by group. -/
abbrev totals (e : FVec Ideal S100000x1 .f32) : FVec Ideal S128x1 .f32 :=
  Host.scatterAdd scatter_S128x1_S100000x1_S100000x1_1_0_0_1 (broadcastInDim S128x1 ![] bcast_S_S128x1 (constant S_ .f32 0x00000000#32)) (col a9) e

/-- A group value at each row of the group. -/
abbrev spread (v : FVec Ideal S128x1 .f32) : FVec Ideal S100000x1 .f32 :=
  Host.gather gather_S128x1_S100000x1_S100000x1_1_0_n_n_0_1_11 v (wrap a9)

/-- The pooling: the features weighted by a quotient, summed by group. -/
abbrev pool (H : FVec Ideal S100000x512 .f32) (e d : FVec Ideal S100000x1 .f32) : FVec Ideal S128x512 .f32 :=
  Host.scatterAdd scatter_S128x512_S100000x1_S100000x512_1_0_0_1 (broadcastInDim S128x512 ![] bcast_S_S128x512 (constant S_ .f32 0x00000000#32)) (col a9) (mulf (broadcastInDim S100000x512 ![0, 1] bcast_S100000x1_S100000x512_0_1 (Host.divf e d)) H)

/-- A layer without bias at an index. -/
theorem layer_apply (x : FVec Ideal S100000x512 .f32) (w : FVec Ideal S512x512 .f32) (b : FVec Ideal S512 .f32)
    (hb : ∀ i, b i = (0 : EReal)) (n : Fin 100000) (k : Fin 512) :
    layer x w b (ix2 n k) = hid (fun j k => w (ix2 j k)) (fun j => x (ix2 n j)) k := by
  unfold layer
  pointwise
  rw [hb, add_zero]
  rfl

/-- The features at an index, when the biases are zero. -/
theorem featsH_apply (h2 : ∀ i, a2 i = (0 : EReal)) (h4 : ∀ i, a4 i = (0 : EReal)) (n : Fin 100000) (k : Fin 512) :
    featsH a0 a1 a2 a3 a4 (ix2 n k)
      = feat (fun j k => a1 (ix2 j k)) (fun j k => a3 (ix2 j k)) (fun j => a0 (ix2 n j)) k := by
  unfold featsH
  generalize hL : layer a0 a1 a2 = L
  pointwise
  rw [h4, add_zero]
  unfold feat
  simp only [← hL, layer_apply _ _ _ h2]

/-- The gates at an index, when the biases are zero. -/
theorem gateH_apply (H : FVec Ideal S100000x512 .f32) (h6 : ∀ i, a6 i = (0 : EReal)) (h8 : ∀ i, a8 i = (0 : EReal)) (n : Fin 100000) :
    gateH a5 a6 a7 a8 H (ix2 n 0)
      = ∑ k, hid (fun j k => a5 (ix2 j k)) (fun j => H (ix2 n j)) k * a7 (ix2 k 0) := by
  unfold gateH
  generalize hL : layer H a5 a6 = L
  pointwise
  rw [h8, add_zero]
  simp only [← hL, layer_apply _ _ _ h6]

/-- The sums of a column by group, at a group. -/
theorem totals_apply (e : FVec Ideal S100000x1 .f32) (g : Fin 128) :
    totals a9 e (ix2 g 0) = groupSum (fun n => a9 (ix1 n)) g fun n => e (ix2 n 0) := by
  unfold totals
  rw [scatterAdd_rows (by norm_num) _ rfl rfl rfl rfl]
  pointwise
  rfl

/-- A group value read at a row of the group. -/
theorem spread_apply (v : FVec Ideal S128x1 .f32) (n : Fin 100000) (g : Fin 128) (hw : a9 (ix1 n) = BitVec.ofNat 32 g.val) :
    spread a9 v (ix2 n 0) = v (ix2 g 0) := by
  have e : wrap a9 (ix2 n 0) = BitVec.ofNat 32 g.val := by
    unfold wrap
    pointwise
    rw [hw]
    have := g.isLt
    exact Routing.wrap_of_lt _ _ (by rw [BitVec.toNat_ofNat]; omega)
  unfold spread
  have := Routing.gather_row gather_S128x1_S100000x1_S100000x1_1_0_n_n_0_1_11 rfl rfl rfl rfl rfl v (wrap a9) n 0 g
    (by rw [← ix2_eq_valueIdx]; exact e) (by norm_num)
  rw [← ix2_eq_valueIdx, ← ix2_eq_valueIdx] at this
  exact this

/-- The pooling at a group and a column. -/
theorem pool_apply (H : FVec Ideal S100000x512 .f32) (e d : FVec Ideal S100000x1 .f32) (g : Fin 128) (k : Fin 512) :
    pool a9 H e d (ix2 g k)
      = groupSum (fun n => a9 (ix1 n)) g fun n => Ideal.div (e (ix2 n 0)) (d (ix2 n 0)) * H (ix2 n k) := by
  unfold pool
  rw [scatterAdd_rows (by norm_num) _ rfl rfl rfl rfl]
  pointwise
  rfl

end

end Cert.ReferenceIdeal.Pool

end
-- ==== Proof.Equations.lean ====
/-
  The two equations over the extended reals: the quotient taken once per group is the quotient taken per
  row, and a common shift of a group's gates by a real number changes neither.
-/
module

public import proofs.«01_k».proof.Proof.Host

@[expose] public section

noncomputable section

open Idealize.ShloMosaic

namespace GroupPool

/-- The constant is a positive real number. -/
theorem eps_real : ∃ r : ℝ, 0 < r ∧ eps = (r : EReal) := by
  refine ⟨15111573 * 2 ^ (-77 : ℤ), by positivity, ?_⟩
  unfold eps
  simp [Ideal.ofBits, Ideal.ieee, -EReal.coe_mul]

/-- An exponential is not negative. -/
theorem exp_nonneg (x : EReal) : 0 ≤ Ideal.exp x := by
  induction x with
  | bot => exact le_refl _
  | top => exact le_top
  | coe r => exact EReal.coe_nonneg.mpr (Real.exp_pos r).le

/-- An exponential of a difference by a real number is a product. -/
theorem exp_sub_real (x : EReal) (r : ℝ) : Ideal.exp (x - (r : EReal)) = Ideal.exp x * ((Real.exp (-r) : ℝ) : EReal) := by
  induction x with
  | bot => exact (zero_mul _).symm
  | top => exact (EReal.top_mul_coe_of_pos (Real.exp_pos _)).symm
  | coe s =>
    show ((Real.exp (s - r) : ℝ) : EReal) = ((Real.exp s : ℝ) : EReal) * _
    rw [← EReal.coe_mul, ← Real.exp_add, sub_eq_add_neg]

/-- A real factor that is not negative goes through a sum. -/
theorem sum_mul_of_nonneg {ι : Type*} (s : Finset ι) (f : ι → EReal) (k : EReal) (h0 : 0 ≤ k) (h1 : k ≠ ⊤) :
    ∑ i ∈ s, f i * k = (∑ i ∈ s, f i) * k := by
  classical
  induction s using Finset.induction_on with
  | empty => simp
  | insert a s ha ih => rw [Finset.sum_insert ha, Finset.sum_insert ha, ih, EReal.right_distrib_of_nonneg_of_ne_top h0 h1]

variable (b : Fin 100000 → BitVec 32) (g : Fin 128)

/-- A sum over a group depends on its terms at the group's rows only. -/
theorem groupSum_congr (f f' : Fin 100000 → EReal) (h : ∀ n, b n = BitVec.ofNat 32 g.val → f n = f' n) :
    groupSum b g f = groupSum b g f' := by
  refine Finset.sum_congr rfl fun n _ => ?_
  split_ifs with hn
  · exact h n hn
  · rfl

/-- A real factor that is not negative goes through a sum over a group. -/
theorem groupSum_mul (f : Fin 100000 → EReal) (k : EReal) (h0 : 0 ≤ k) (h1 : k ≠ ⊤) :
    groupSum b g (fun n => f n * k) = groupSum b g f * k := by
  unfold groupSum
  rw [← sum_mul_of_nonneg _ _ k h0 h1]
  refine Finset.sum_congr rfl fun n _ => ?_
  split_ifs
  · rfl
  · exact (zero_mul k).symm

/-- A sum of terms that are not negative is not negative. -/
theorem groupSum_nonneg (f : Fin 100000 → EReal) (h : ∀ n, 0 ≤ f n) : 0 ≤ groupSum b g f :=
  Finset.sum_nonneg fun n _ => by split_ifs; exacts [h n, le_refl _]

/-- A total that is not negative, plus the constant, is positive. -/
theorem total_pos (S : EReal) (h : 0 ≤ S) : 0 < S + eps := by
  obtain ⟨r, hr, he⟩ := eps_real
  rw [he]
  exact lt_of_lt_of_le (EReal.coe_pos.mpr hr) (le_add_of_nonneg_left h)

/-- The inverse of a positive number is a real number that is not negative. -/
theorem inv_of_pos (x : EReal) (h : 0 < x) : 0 ≤ x⁻¹ ∧ x⁻¹ ≠ ⊤ := by
  refine ⟨EReal.inv_nonneg_of_nonneg h.le, ?_⟩
  induction x with
  | bot => exact absurd h (by simp)
  | top => simp
  | coe r => rw [← EReal.coe_inv]; exact EReal.coe_ne_top _

variable (e : Fin 100000 → EReal) (h : Fin 100000 → Fin 512 → EReal) (k : Fin 512)

/-- THE FIRST EQUATION: features weighted row by row with the quotient of weight and total sum to the
    quotient of the weighted sum and the total. -/
theorem pooled_of_rows (he : ∀ n, 0 ≤ e n) (w : Fin 100000 → EReal)
    (hw : ∀ n, b n = BitVec.ofNat 32 g.val → w n = Ideal.div (e n) (groupSum b g e + eps)) :
    groupSum b g (fun n => w n * h n k) = pooled b e h g k := by
  have hp := total_pos _ (groupSum_nonneg b g e he)
  obtain ⟨h0, h1⟩ := inv_of_pos _ hp
  unfold pooled Ideal.div
  rw [if_neg hp.ne', ← groupSum_mul b g _ _ h0 h1]
  refine groupSum_congr b g _ _ fun n hn => ?_
  rw [hw n hn, Ideal.div, if_neg hp.ne']
  exact mul_right_comm _ _ _

/-- THE SECOND EQUATION: a quotient of shifted weight and shifted total, the constant shifted too, is the
    quotient of the weight and the total. -/
theorem shifted_quotient (x S : EReal) (hS : 0 ≤ S) (q : ℝ) (hq : 0 < q) :
    Ideal.div (x * (q : EReal)) (S * (q : EReal) + eps * (q : EReal)) = Ideal.div x (S + eps) := by
  have hp := total_pos S hS
  have hq' : (0 : EReal) < q := EReal.coe_pos.mpr hq
  rw [← EReal.right_distrib_of_nonneg_of_ne_top hq'.le (EReal.coe_ne_top q)]
  have hpq : (S + eps) * (q : EReal) ≠ 0 := mul_ne_zero hp.ne' hq'.ne'
  rw [Ideal.div, Ideal.div, if_neg hp.ne', if_neg hpq, EReal.mul_inv, mul_mul_mul_comm,
    ← EReal.coe_inv, ← EReal.coe_mul, mul_inv_cancel₀ hq.ne', EReal.coe_one, mul_one]

/-- That a number is real. -/
def IsReal (x : EReal) : Prop := ∃ r : ℝ, x = (r : EReal)

theorem IsReal.mul {x y : EReal} : IsReal x → IsReal y → IsReal (x * y) := by
  rintro ⟨r, rfl⟩ ⟨s, rfl⟩
  exact ⟨r * s, (EReal.coe_mul r s).symm⟩

theorem IsReal.add {x y : EReal} : IsReal x → IsReal y → IsReal (x + y) := by
  rintro ⟨r, rfl⟩ ⟨s, rfl⟩
  exact ⟨r + s, (EReal.coe_add r s).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {n : ℕ} (f : Fin n → EReal) (hf : ∀ i, IsReal (f i)) : IsReal (∑ i, f i) :=
  Finset.sum_induction _ IsReal (fun _ _ => IsReal.add) IsReal.zero fun i _ => hf i

/-- The gate of a row is real when the row and the weights are. -/
theorem gate_real (W1 W2 Wg1 : Fin 512 → Fin 512 → EReal) (wg x : Fin 512 → EReal) (h1 : ∀ j k, IsReal (W1 j k))
    (h2 : ∀ j k, IsReal (W2 j k)) (h3 : ∀ j k, IsReal (Wg1 j k)) (h4 : ∀ k, IsReal (wg k)) (hx : ∀ j, IsReal (x j)) :
    IsReal (gate W1 W2 Wg1 wg x) := by
  have hid_real : ∀ (W : Fin 512 → Fin 512 → EReal) (v : Fin 512 → EReal), (∀ j k, IsReal (W j k)) → (∀ j, IsReal (v j)) →
      ∀ k, IsReal (hid W v k) := fun W v hW hv k => (IsReal.sum _ fun j => (hv j).mul (hW j k)).max IsReal.zero
  exact IsReal.sum _ fun k => (hid_real _ _ h3 (fun c => IsReal.sum _ fun j => (hid_real _ _ h1 hx j).mul (h2 j c)) k).mul (h4 k)

/-- The maximum of real numbers, taken over the rows of a group that has one, from the least extended real, is real. -/
theorem groupMax_real (f : Fin 100000 → EReal) (hf : ∀ n, IsReal (f n)) (n : Fin 100000) (hn : b n = BitVec.ofNat 32 g.val) :
    IsReal (Finset.univ.fold max ⊥ fun n => if b n = BitVec.ofNat 32 g.val then f n else ⊥) := by
  set M := Finset.univ.fold max ⊥ fun n => if b n = BitVec.ofNat 32 g.val then f n else (⊥ : EReal)
  have htop : M < ⊤ := (Finset.fold_max_lt ⊤).mpr ⟨bot_lt_top, fun i _ => by
    split_ifs
    · obtain ⟨r, hr⟩ := hf i; rw [hr]; exact EReal.coe_lt_top r
    · exact bot_lt_top⟩
  have hbot : ⊥ < M := (Finset.lt_fold_max ⊥).mpr (Or.inr ⟨n, Finset.mem_univ _, by
    rw [if_pos hn]; obtain ⟨r, hr⟩ := hf n; rw [hr]; exact EReal.bot_lt_coe r⟩)
  exact ⟨M.toReal, (EReal.coe_toReal htop.ne hbot.ne').symm⟩

end GroupPool

end
-- ==== Proof.Values.lean ====
/-
  The two references at a group and a column, over the extended reals: the softmax pooling without a shift, and
  with the maximum of the group's gates for a shift.
-/
module

public import proofs.«01_k».proof.Proof.Equations

@[expose] public section

noncomputable section

open Idealize.ShloMosaic

namespace Cert.ReferenceIdeal.Pool

open Cert.ReferenceIdeal Cert.ReferenceIdeal.Gen GroupPool

section
variable (a0 : FVec Ideal S100000x512 .f32) (a1 : FVec Ideal S512x512 .f32) (a2 : FVec Ideal S512 .f32)
  (a3 : FVec Ideal S512x512 .f32) (a4 : FVec Ideal S512 .f32) (a5 : FVec Ideal S512x512 .f32) (a6 : FVec Ideal S512 .f32)
  (a7 : FVec Ideal S512x1 .f32) (a8 : FVec Ideal S1 .f32) (a9 : IVec S100000 32)

/-- The features of a row, from the arguments. -/
abbrev rowFeat (n : Fin 100000) (k : Fin 512) : EReal :=
  feat (fun j k => a1 (ix2 j k)) (fun j k => a3 (ix2 j k)) (fun j => a0 (ix2 n j)) k

/-- The gate of a row, from the arguments. -/
abbrev rowGate (n : Fin 100000) : EReal :=
  gate (fun j k => a1 (ix2 j k)) (fun j k => a3 (ix2 j k)) (fun j k => a5 (ix2 j k)) (fun k => a7 (ix2 k 0)) (fun j => a0 (ix2 n j))

/-- The constant of the denominators as a column. -/
abbrev epsCol : FVec Ideal S100000x1 .f32 := broadcastInDim S100000x1 ![] bcast_S_S100000x1 (constant S_ .f32 0x24E69595#32)

/-- The maximum of the gates of each group, as a column. -/
abbrev maxima (G : FVec Ideal S100000x1 .f32) : FVec Ideal S128x1 .f32 :=
  broadcastInDim S128x1 ![0] bcast_S128_S128x1_0 (Host.reduce FloatOps.maximumf (select (cmpi .eq (broadcastInDim S100000x128 ![0, 1] bcast_S100000x1_S100000x128_0_1 (col a9)) (broadcastInDim S100000x128 ![0, 1] bcast_S1x128_S100000x128_0_1 (broadcastInDim S1x128 ![1] bcast_S128_S1x128_1 (iotaInDim S128 32 0)))) (broadcastInDim S100000x128 ![0, 1] bcast_S100000x1_S100000x128_0_1 G) (broadcastInDim S100000x128 ![] bcast_S_S100000x128 (id (constant S_ .f32 0xFF800000#32)))) (constant S_ .f32 0xFF800000#32) reducesTo_S100000x128_S128_d0 h_S_)

/-- The pooling without a shift. -/
abbrev unshifted (H : FVec Ideal S100000x512 .f32) (G : FVec Ideal S100000x1 .f32) : FVec Ideal S128x512 .f32 :=
  pool a9 H (Host.exp G) (addf (spread a9 (totals a9 (Host.exp G))) epsCol)

/-- The pooling with the shift `M`. -/
abbrev shifted (H : FVec Ideal S100000x512 .f32) (G M : FVec Ideal S100000x1 .f32) : FVec Ideal S128x512 .f32 :=
  pool a9 H (Host.exp (subf G M)) (addf (spread a9 (totals a9 (Host.exp (subf G M)))) (mulf epsCol (Host.exp (Host.negf M))))

/-- The gates at an index, when the biases are zero. -/
theorem gates_apply (h2 : ∀ i, a2 i = (0 : EReal)) (h4 : ∀ i, a4 i = (0 : EReal)) (h6 : ∀ i, a6 i = (0 : EReal))
    (h8 : ∀ i, a8 i = (0 : EReal)) (n : Fin 100000) :
    gateH a5 a6 a7 a8 (featsH a0 a1 a2 a3 a4) (ix2 n 0) = rowGate a0 a1 a3 a5 a7 n := by
  rw [gateH_apply _ _ _ _ _ h6 h8]
  simp only [featsH_apply a0 a1 a2 a3 a4 h2 h4]
  rfl

/-- The constant is minus infinity. -/
theorem ofBits_bot : (Ideal.ofBits .f32 0xFF800000#32 : EReal) = ⊥ := by
  simp [Ideal.ofBits, Ideal.ieee]

/-- The maximum of a group's gates. -/
theorem maxima_apply (G : FVec Ideal S100000x1 .f32) (g : Fin 128) :
    maxima a9 G (ix2 g 0)
      = Finset.univ.fold max ⊥ fun n : Fin 100000 => if a9 (ix1 n) = BitVec.ofNat 32 g.val then (G (ix2 n 0) : EReal) else ⊥ := by
  unfold maxima
  pointwise
  rw [ofBits_bot]
  refine congrArg (fun f => Finset.fold max ⊥ f Finset.univ) (funext fun n => ?_)
  show (Scalar.select _ _ (Ideal.ofBits .f32 0xFF800000#32) : EReal) = _
  rw [ofBits_bot]
  by_cases h : a9 (ix1 n) = BitVec.ofNat 32 g.val
  · exact (if_pos (IntOp.cmpi_eq.mpr h)).trans (if_pos h).symm
  · exact (if_neg fun h' => h (IntOp.cmpi_eq.mp h')).trans (if_neg h).symm

/-- The pooling without a shift, at a group and a column. -/
theorem unshifted_apply (H : FVec Ideal S100000x512 .f32) (G : FVec Ideal S100000x1 .f32) (g : Fin 128) (k : Fin 512) :
    unshifted a9 H G (ix2 g k)
      = pooled (fun n => a9 (ix1 n)) (fun n => Ideal.exp (G (ix2 n 0))) (fun n k => H (ix2 n k)) g k := by
  unfold unshifted
  rw [pool_apply]
  refine pooled_of_rows (fun n => a9 (ix1 n)) g (fun n => Ideal.exp (G (ix2 n 0))) (fun n k => H (ix2 n k)) k
    (fun n => exp_nonneg _) (fun n => Ideal.div (Host.exp G (ix2 n 0)) (addf (spread a9 (totals a9 (Host.exp G))) epsCol (ix2 n 0))) fun n hn => ?_
  have e : (addf (spread a9 (totals a9 (Host.exp G))) epsCol) (ix2 n 0)
      = groupSum (fun n => a9 (ix1 n)) g (fun n => Ideal.exp (G (ix2 n 0))) + eps := by
    show (spread a9 (totals a9 (Host.exp G)) (ix2 n 0) : EReal) + _ = _
    rw [spread_apply a9 _ n g hn, totals_apply]
    rfl
  beta_reduce
  rw [e]
  rfl

/-- The pooling with a shift that is one real number on the rows of the group, at the group and a column. -/
theorem shifted_apply (H : FVec Ideal S100000x512 .f32) (G M : FVec Ideal S100000x1 .f32) (g : Fin 128) (k : Fin 512)
    (v : EReal) (hM : ∀ n, a9 (ix1 n) = BitVec.ofNat 32 g.val → M (ix2 n 0) = v ∧ IsReal v) :
    shifted a9 H G M (ix2 g k)
      = pooled (fun n => a9 (ix1 n)) (fun n => Ideal.exp (G (ix2 n 0))) (fun n k => H (ix2 n k)) g k := by
  unfold shifted
  rw [pool_apply]
  refine pooled_of_rows (fun n => a9 (ix1 n)) g (fun n => Ideal.exp (G (ix2 n 0))) (fun n k => H (ix2 n k)) k
    (fun n => exp_nonneg _) (fun n => Ideal.div (Host.exp (subf G M) (ix2 n 0)) (addf (spread a9 (totals a9 (Host.exp (subf G M)))) (mulf epsCol (Host.exp (Host.negf M))) (ix2 n 0))) fun n hn => ?_
  obtain ⟨hv, r, rfl⟩ := hM n hn
  have e1 : ∀ n, a9 (ix1 n) = BitVec.ofNat 32 g.val →
      Host.exp (subf G M) (ix2 n 0) = Ideal.exp (G (ix2 n 0)) * ((Real.exp (-r) : ℝ) : EReal) := fun n hn => by
    show Ideal.exp ((G (ix2 n 0) : EReal) - M (ix2 n 0)) = _
    rw [(hM n hn).1, exp_sub_real]
  have e2 : (addf (spread a9 (totals a9 (Host.exp (subf G M)))) (mulf epsCol (Host.exp (Host.negf M)))) (ix2 n 0)
      = groupSum (fun n => a9 (ix1 n)) g (fun n => Ideal.exp (G (ix2 n 0))) * ((Real.exp (-r) : ℝ) : EReal)
        + eps * ((Real.exp (-r) : ℝ) : EReal) := by
    show (spread a9 (totals a9 (Host.exp (subf G M))) (ix2 n 0) : EReal) + eps * Ideal.exp (-(M (ix2 n 0) : EReal)) = _
    rw [spread_apply a9 _ n g hn, totals_apply, groupSum_congr _ g _ _ e1,
      groupSum_mul _ g _ _ (EReal.coe_nonneg.mpr (Real.exp_pos _).le) (EReal.coe_ne_top _), hv]
    rfl
  beta_reduce
  rw [e1 n hn, e2]
  exact shifted_quotient _ _ (groupSum_nonneg _ g _ fun n => exp_nonneg _) _ (Real.exp_pos _)

/-- The pooling of the arguments without a shift, when the biases are zero. -/
theorem unshifted_rows (h2 : ∀ i, a2 i = (0 : EReal)) (h4 : ∀ i, a4 i = (0 : EReal)) (h6 : ∀ i, a6 i = (0 : EReal))
    (h8 : ∀ i, a8 i = (0 : EReal)) (g : Fin 128) (k : Fin 512) :
    unshifted a9 (featsH a0 a1 a2 a3 a4) (gateH a5 a6 a7 a8 (featsH a0 a1 a2 a3 a4)) (ix2 g k)
      = pooled (fun n => a9 (ix1 n)) (fun n => Ideal.exp (rowGate a0 a1 a3 a5 a7 n)) (rowFeat a0 a1 a3) g k := by
  rw [unshifted_apply]
  simp only [gates_apply a0 a1 a2 a3 a4 a5 a6 a7 a8 h2 h4 h6 h8, featsH_apply a0 a1 a2 a3 a4 h2 h4]

/-- The pooling of the arguments with each group's maximal gate for a shift, when the biases are zero and the gates real. -/
theorem shifted_rows (h2 : ∀ i, a2 i = (0 : EReal)) (h4 : ∀ i, a4 i = (0 : EReal)) (h6 : ∀ i, a6 i = (0 : EReal))
    (h8 : ∀ i, a8 i = (0 : EReal)) (hr : ∀ n, IsReal (rowGate a0 a1 a3 a5 a7 n)) (g : Fin 128) (k : Fin 512) :
    shifted a9 (featsH a0 a1 a2 a3 a4) (gateH a5 a6 a7 a8 (featsH a0 a1 a2 a3 a4))
        (spread a9 (maxima a9 (gateH a5 a6 a7 a8 (featsH a0 a1 a2 a3 a4)))) (ix2 g k)
      = pooled (fun n => a9 (ix1 n)) (fun n => Ideal.exp (rowGate a0 a1 a3 a5 a7 n)) (rowFeat a0 a1 a3) g k := by
  refine (shifted_apply a9 _ _ _ g k _ fun n hn => ⟨spread_apply a9 _ n g hn, ?_⟩).trans ?_
  · rw [maxima_apply]
    simp only [gates_apply a0 a1 a2 a3 a4 a5 a6 a7 a8 h2 h4 h6 h8]
    exact groupMax_real (fun n => a9 (ix1 n)) g _ hr n hn
  · simp only [gates_apply a0 a1 a2 a3 a4 a5 a6 a7 a8 h2 h4 h6 h8, featsH_apply a0 a1 a2 a3 a4 h2 h4]

end

end Cert.ReferenceIdeal.Pool

end
-- ==== Proof.Preconditions.lean ====
/-
  What the two preconditions say of the arguments, over the extended reals: every bias is zero, and, for the
  second, the rows and the weights are real numbers.
-/
module

public import proofs.«01_k».proof.Proof.Values
public import proofs.«01_k».proof.Proof.Gen.Pre_finite_zero_biases
public import proofs.«01_k».proof.Proof.Gen.Pre_zero_biases
public import Idealize.ShloMosaic.Lib.ReduceAll

@[expose] public section

noncomputable section

open Idealize.ShloMosaic

namespace Cert.Pre

open GroupPool

/-- The shape of a scalar. -/
abbrev S_ : Shape := ⟨0, ![]⟩

/-- A scalar has one index. -/
instance : Subsingleton S_.Idx := ⟨fun _ _ => funext fun a => a.elim0⟩

/-- A conjunction of two words that is 1 has both words 1. -/
theorem andi_split (x y : IVec S_ 1) (i : S_.Idx) (h : andi x y i = 1#1) : x i = 1#1 ∧ y i = 1#1 :=
  IntOp.andi_eq_one.mp h

/-- A comparison word that is 1 states its comparison. -/
theorem of_ofBool {p : Prop} [Decidable p] (h : BitVec.ofBool (decide p) = 1#1) : p := by
  by_contra hp
  rw [decide_eq_false hp] at h
  exact absurd h (by decide)

/-- A number whose absolute value is less than infinity is real. -/
theorem real_of_abs_lt (v : EReal) (h : max v (-v) < ⊤) : IsReal v := by
  induction v with
  | bot => simp at h
  | top => simp at h
  | coe r => exact ⟨r, rfl⟩

variable {s : Shape} {axes : List (Fin s.rank)} (x : FVec Ideal s .f32)
  (b : S_.BroadcastsInDim s (![] : Fin 0 → Fin s.rank)) (r : s.ReducesTo axes S_) (hu : 0 < S_.numel) (j : S_.Idx)

/-- An array of which every comparison with zero holds is zero. -/
theorem zero_of_all
    (h : Host.reduce IntOp.andi (cmpf .oeq x (broadcastInDim s ![] b (constant S_ .f32 0x00000000#32))) (constantI S_ 1 1#1) r hu j = 1#1)
    (i : s.Idx) : x i = (0 : EReal) := by
  have e : (x i : EReal) = Ideal.ofBits .f32 0x00000000#32 := of_ofBool (Host.reduce_andi_all _ _ r hu j h i)
  rw [e]
  simp [Ideal.ofBits, Ideal.ieee]

/-- An array of which every absolute value is less than infinity is real. -/
theorem real_of_all
    (h : Host.reduce IntOp.andi (cmpf .olt (Host.absf x) (broadcastInDim s ![] b (constant S_ .f32 0x7F800000#32))) (constantI S_ 1 1#1) r hu j = 1#1)
    (i : s.Idx) : IsReal (x i) := by
  have e : max (x i : EReal) (-(x i)) < Ideal.ofBits .f32 0x7F800000#32 := of_ofBool (Host.reduce_andi_all _ _ r hu j h i)
  exact real_of_abs_lt _ (lt_of_lt_of_le e le_top)

section
variable (a0 : FVec Ideal ⟨2, ![100000, 512]⟩ .f32) (a1 : FVec Ideal ⟨2, ![512, 512]⟩ .f32) (a2 : FVec Ideal ⟨1, ![512]⟩ .f32)
  (a3 : FVec Ideal ⟨2, ![512, 512]⟩ .f32) (a4 : FVec Ideal ⟨1, ![512]⟩ .f32) (a5 : FVec Ideal ⟨2, ![512, 512]⟩ .f32)
  (a6 : FVec Ideal ⟨1, ![512]⟩ .f32) (a7 : FVec Ideal ⟨2, ![512, 1]⟩ .f32) (a8 : FVec Ideal ⟨1, ![1]⟩ .f32) (a9 : IVec ⟨1, ![100000]⟩ 32)

/-- That the four biases are zero. -/
def Biases : Prop :=
  (∀ i, a2 i = (0 : EReal)) ∧ (∀ i, a4 i = (0 : EReal)) ∧ (∀ i, a6 i = (0 : EReal)) ∧ (∀ i, a8 i = (0 : EReal))

/-- That the rows and the weights are real. -/
def Reals : Prop :=
  (∀ i, IsReal (a0 i)) ∧ (∀ i, IsReal (a1 i)) ∧ (∀ i, IsReal (a3 i)) ∧ (∀ i, IsReal (a5 i)) ∧ (∀ i, IsReal (a7 i))

/-- The first precondition: the biases are zero. -/
theorem of_zero_biases (j : S_.Idx) (h : Cert.Pre_zero_biases.fn (F := Ideal) a0 a1 a2 a3 a4 a5 a6 a7 a8 a9 j = 1#1) :
    Biases a2 a4 a6 a8 := by
  obtain ⟨h, h8⟩ := andi_split _ _ _ h
  obtain ⟨h, h6⟩ := andi_split _ _ _ h
  obtain ⟨h2, h4⟩ := andi_split _ _ _ h
  exact ⟨zero_of_all _ _ _ _ _ h2, zero_of_all _ _ _ _ _ h4, zero_of_all _ _ _ _ _ h6, zero_of_all _ _ _ _ _ h8⟩

/-- The second precondition: the biases are zero, the rows and the weights real. -/
theorem of_finite_zero_biases (j : S_.Idx)
    (h : Cert.Pre_finite_zero_biases.fn (F := Ideal) a0 a1 a2 a3 a4 a5 a6 a7 a8 a9 j = 1#1) :
    Biases a2 a4 a6 a8 ∧ Reals a0 a1 a3 a5 a7 := by
  obtain ⟨h, h7⟩ := andi_split _ _ _ h
  obtain ⟨h, h5⟩ := andi_split _ _ _ h
  obtain ⟨h, h3⟩ := andi_split _ _ _ h
  obtain ⟨h, h1⟩ := andi_split _ _ _ h
  obtain ⟨h, h0⟩ := andi_split _ _ _ h
  exact ⟨of_zero_biases a0 a1 a2 a3 a4 a5 a6 a7 a8 a9 j h, real_of_all _ _ _ _ _ h0, real_of_all _ _ _ _ _ h1,
    real_of_all _ _ _ _ _ h3, real_of_all _ _ _ _ _ h5, real_of_all _ _ _ _ _ h7⟩

end

end Cert.Pre

end
-- ==== Proof.lean ====
/-
  The certificate `Cert.Claim`: the kernel's result is the two references' result over the extended reals, and
  the kernel, its idealization and the references run, keep their arguments and leave every semaphore at zero.
-/
module

public import proofs.«01_k».proof.Defs
public import proofs.«01_k».proof.Proof.Preconditions
public import proofs.«01_k».proof.Proof.Gen.Kernel.Frame
public import Idealize.ShloMosaic.Adequacy
public import Idealize.ShloMosaic.Init
public import Idealize.ShloMosaic.Lib.Quiescent

@[expose] public section

noncomputable section

namespace Cert.Proof

open Idealize.ShloMosaic Idealize.SL.Sem GroupPool

/-- The reference with the shift runs, keeps its arguments and leaves no semaphore up, from any memory. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference without a shift runs, keeps its arguments and leaves no semaphore up, from any memory. -/
theorem quiescent_unshifted : quiescent_UnshiftedIdeal := fun m ρ _ =>
  (θ_run Cert.UnshiftedIdeal.defs _ _).mono (fun r h => ⟨fun c => (h c).2, sem_eq_zero_of_no_sems (by decide) r.2⟩)
    (Cert.UnshiftedIdeal.Value.run (F := Ideal) m ρ)

section
open Cert.KernelIdeal Idealize.ShloMosaic.TcCoe

variable (m : (ℓ : Loc nD τ sig) → Buf (Elt Ideal) ℓ) (c : Dev nD)

/-- The kernel's result is the pooling without a shift of its arguments, when the biases are zero. -/
theorem kernel_unshifted (h : Cert.Pre.Biases (m ((c : Thread nD τ).loc main_arg2)) (m ((c : Thread nD τ).loc main_arg4))
      (m ((c : Thread nD τ).loc main_arg6)) (m ((c : Thread nD τ).loc main_arg8)))
    (H : FVec Ideal Cert.ReferenceIdeal.S100000x512 .f32) (G : FVec Ideal Cert.ReferenceIdeal.S100000x1 .f32)
    (hH : H = Cert.ReferenceIdeal.Pool.featsH (m ((c : Thread nD τ).loc main_arg0)) (m ((c : Thread nD τ).loc main_arg1)) (m ((c : Thread nD τ).loc main_arg2)) (m ((c : Thread nD τ).loc main_arg3)) (m ((c : Thread nD τ).loc main_arg4)))
    (hG : G = Cert.ReferenceIdeal.Pool.gateH (m ((c : Thread nD τ).loc main_arg5)) (m ((c : Thread nD τ).loc main_arg6)) (m ((c : Thread nD τ).loc main_arg7)) (m ((c : Thread nD τ).loc main_arg8)) H) :
    Cert.ReferenceIdeal.Pool.unshifted (m ((c : Thread nD τ).loc main_arg9)) H G = Value.G8 m c := by
  obtain ⟨h2, h4, h6, h8⟩ := h
  subst hH
  subst hG
  funext i
  rw [ValueIdx.eq_ix2 i, ← ix2_eq_valueIdx]
  exact (Cert.ReferenceIdeal.Pool.unshifted_rows _ _ _ _ _ _ _ _ _ _ h2 h4 h6 h8 _ _).trans (Pool.result_apply m c _ _).symm

/-- The kernel's result is the pooling of its arguments with each group's maximal gate for a shift, when the biases
    are zero and the rows and the weights real. -/
theorem kernel_shifted (h : Cert.Pre.Biases (m ((c : Thread nD τ).loc main_arg2)) (m ((c : Thread nD τ).loc main_arg4))
      (m ((c : Thread nD τ).loc main_arg6)) (m ((c : Thread nD τ).loc main_arg8)))
    (hr : Cert.Pre.Reals (m ((c : Thread nD τ).loc main_arg0)) (m ((c : Thread nD τ).loc main_arg1))
      (m ((c : Thread nD τ).loc main_arg3)) (m ((c : Thread nD τ).loc main_arg5)) (m ((c : Thread nD τ).loc main_arg7)))
    (H : FVec Ideal Cert.ReferenceIdeal.S100000x512 .f32) (G : FVec Ideal Cert.ReferenceIdeal.S100000x1 .f32)
    (hH : H = Cert.ReferenceIdeal.Pool.featsH (m ((c : Thread nD τ).loc main_arg0)) (m ((c : Thread nD τ).loc main_arg1)) (m ((c : Thread nD τ).loc main_arg2)) (m ((c : Thread nD τ).loc main_arg3)) (m ((c : Thread nD τ).loc main_arg4)))
    (hG : G = Cert.ReferenceIdeal.Pool.gateH (m ((c : Thread nD τ).loc main_arg5)) (m ((c : Thread nD τ).loc main_arg6)) (m ((c : Thread nD τ).loc main_arg7)) (m ((c : Thread nD τ).loc main_arg8)) H) :
    Cert.ReferenceIdeal.Pool.shifted (m ((c : Thread nD τ).loc main_arg9)) H G
        (Cert.ReferenceIdeal.Pool.spread (m ((c : Thread nD τ).loc main_arg9)) (Cert.ReferenceIdeal.Pool.maxima (m ((c : Thread nD τ).loc main_arg9)) G))
      = Value.G8 m c := by
  obtain ⟨h2, h4, h6, h8⟩ := h
  obtain ⟨r0, r1, r3, r5, r7⟩ := hr
  subst hH
  subst hG
  funext i
  rw [ValueIdx.eq_ix2 i, ← ix2_eq_valueIdx]
  exact (Cert.ReferenceIdeal.Pool.shifted_rows _ _ _ _ _ _ _ _ _ _ h2 h4 h6 h8
    (fun n => gate_real _ _ _ _ _ (fun _ _ => r1 _) (fun _ _ => r3 _) (fun _ _ => r5 _) (fun _ => r7 _) fun _ => r0 _) _ _).trans
    (Pool.result_apply m c _ _).symm

end

/-- THE FIRST VALUE CLAIM: the kernel's result is the shifted reference's. -/
theorem algebraic_reference : algebraic_KernelIdeal_ReferenceIdeal_pre_finite_zero_biases := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨hb, hr⟩ := Cert.Pre.of_finite_zero_biases _ _ _ _ _ _ _ _ _ _ (fun a => a.elim0) (congrFun (hpre c) _)
  unfold Cert.ReferenceIdeal.Value.res_main_v65
  simp only [hagree c]
  exact kernel_shifted m c hb hr _ _ rfl rfl

/-- THE SECOND VALUE CLAIM: the kernel's result is the unshifted reference's. -/
theorem algebraic_unshifted : algebraic_KernelIdeal_UnshiftedIdeal_pre_zero_biases := by
  intro m ρ m' ρ' hpre hagree
  refine ⟨_, Cert.KernelIdeal.Value.run (F := Ideal) m ρ, ?_⟩
  refine (θ_run Cert.UnshiftedIdeal.defs _ _).mono (fun _ h c => ⟨?_, (h c).2⟩) (Cert.UnshiftedIdeal.Value.run (F := Ideal) m' ρ')
  rw [(h c).1]
  have hb := Cert.Pre.of_zero_biases _ _ _ _ _ _ _ _ _ _ (fun a => a.elim0) (congrFun (hpre c) _)
  unfold Cert.UnshiftedIdeal.Value.res_main_v38
  simp only [hagree c]
  exact kernel_unshifted m c hb _ _ rfl rfl

/-- Everything claimed. -/
theorem claim : Cert.Claim := ⟨Cert.Kernel.Gen.facts, Cert.KernelIdeal.Gen.facts, Cert.ReferenceIdeal.Gen.facts, Cert.UnshiftedIdeal.Gen.facts, Cert.Pre_finite_zero_biases.Gen.facts, Cert.Pre_zero_biases.Gen.facts,
  fun m ρ _ => Cert.Kernel.Gen.frame m ρ, fun m ρ _ => Cert.KernelIdeal.Gen.frame m ρ, fun m ρ _ => Cert.KernelIdeal.Gen.frame m ρ, fun m ρ _ => Cert.KernelIdeal.Gen.frame m ρ,
  quiescent_reference, fun m ρ _ => quiescent_reference m ρ trivial, quiescent_unshifted, fun m ρ _ => quiescent_unshifted m ρ trivial,
  (trivial : preserves_Kernel_KernelIdeal), algebraic_reference, algebraic_unshifted⟩

end Cert.Proof

end
